-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S2x256x2048 : Shape := ⟨3, ![2, 256, 2048]⟩
abbrev S2x2x256x2048 : Shape := ⟨4, ![2, 2, 256, 2048]⟩
abbrev S2 : Shape := ⟨1, ![2]⟩
abbrev S2x2 : Shape := ⟨2, ![2, 2]⟩
abbrev S_ : Shape := ⟨0, ![]⟩
abbrev S256x256 : Shape := ⟨2, ![256, 256]⟩
abbrev S256x4096 : Shape := ⟨2, ![256, 4096]⟩
abbrev S256x2048 : Shape := ⟨2, ![256, 2048]⟩
abbrev S1x256x2048 : Shape := ⟨3, ![1, 256, 2048]⟩
abbrev S1 : Shape := ⟨1, ![1]⟩
abbrev S1x1 : Shape := ⟨2, ![1, 1]⟩
abbrev S1x1x256x2048 : Shape := ⟨4, ![1, 1, 256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S256x8192, .f32⟩
  | .local _ .vmem, ⟨3, _⟩ => ⟨S2x256x2048, .f32⟩
  | .local _ .vmem, ⟨4, _⟩ => ⟨S2x256x2048, .f32⟩
  | .local _ .vmem, ⟨5, _⟩ => ⟨S2x2x256x2048, .f32⟩
  | .local _ .vmem, ⟨6, _⟩ => ⟨S2x2x256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 3 15 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c15_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.addi v2 c15_i32
  let c16_i32_10 : BitVec 32 := 16#32
  let v14 : BitVec 32 := Scalar.remsi v13 c16_i32_10
  let c256_i32 : BitVec 32 := 256#32
  let v15 : BitVec 32 := Scalar.muli v14 c256_i32
  let v16 : Index := Scalar.indexCast v15
  let c0 : Index := 0#32
  ![v16.toNat, 0]
def k0_off2 (d0 : Dev nD) (c0_i32_13 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v22 : BitVec 32 := Scalar.addi v2 c0_i32_13
  let c1_i32_14 : BitVec 32 := 1#32
  let v23 : BitVec 32 := Scalar.addi v22 c1_i32_14
  let c16_i32_15 : BitVec 32 := 16#32
  let v24 : BitVec 32 := Scalar.remsi v23 c16_i32_15
  let c256_i32_16 : BitVec 32 := 256#32
  let v25 : BitVec 32 := Scalar.muli v24 c256_i32_16
  let v26 : Index := Scalar.indexCast v25
  let c0_17 : Index := 0#32
  ![v26.toNat, 0]
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_29 : BitVec 32 := 1#32
  let v36 : BitVec 32 := Scalar.muli v7 c1_i32_29
  let v37 : BitVec 32 := Scalar.addi c0_i32_30 v36
  v37.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_44 : BitVec 32 := 1#32
  let v50 : BitVec 32 := Scalar.muli v5 c1_i32_44
  let v51 : BitVec 32 := Scalar.addi c0_i32_45 v50
  v51.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_58 : BitVec 32 := 1#32
  let v64 : BitVec 32 := Scalar.muli v7 c1_i32_58
  let v65 : BitVec 32 := Scalar.addi c0_i32_59 v64
  v65.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_73 : BitVec 32 := 1#32
  let v78 : BitVec 32 := Scalar.muli v5 c1_i32_73
  let v79 : BitVec 32 := Scalar.addi c0_i32_74 v78
  v79.toNat
def k0_dev7 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_129 : BitVec 32 := 1#32
  let v128 : BitVec 32 := Scalar.muli v7 c1_i32_129
  let v129 : BitVec 32 := Scalar.addi c0_i32_130 v128
  v129.toNat
def k0_dev8 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_171 : BitVec 32 := 1#32
  let v159 : BitVec 32 := Scalar.muli v5 c1_i32_171
  let v160 : BitVec 32 := Scalar.addi c0_i32_172 v159
  v160.toNat
def k0_dev9 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_213 : BitVec 32 := 1#32
  let v190 : BitVec 32 := Scalar.muli v7 c1_i32_213
  let v191 : BitVec 32 := Scalar.addi c0_i32_214 v190
  v191.toNat
def k0_dev10 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_255 : BitVec 32 := 1#32
  let v221 : BitVec 32 := Scalar.muli v5 c1_i32_255
  let v222 : BitVec 32 := Scalar.addi c0_i32_256 v221
  v222.toNat
def k0_dev11 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_262 : BitVec 32 := 1#32
  let v231 : BitVec 32 := Scalar.muli v5 c1_i32_262
  let v232 : BitVec 32 := Scalar.addi c0_i32_263 v231
  v232.toNat
def k0_dev12 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_265 : BitVec 32 := 1#32
  let v233 : BitVec 32 := Scalar.muli v7 c1_i32_265
  let v234 : BitVec 32 := Scalar.addi c0_i32_266 v233
  v234.toNat
def k0_dev13 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_321 : BitVec 32 := 1#32
  let v275 : BitVec 32 := Scalar.muli v7 c1_i32_321
  let v276 : BitVec 32 := Scalar.addi c0_i32_322 v275
  v276.toNat
def k0_dev14 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_363 : BitVec 32 := 1#32
  let v306 : BitVec 32 := Scalar.muli v5 c1_i32_363
  let v307 : BitVec 32 := Scalar.addi c0_i32_364 v306
  v307.toNat
def k0_dev15 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_405 : BitVec 32 := 1#32
  let v337 : BitVec 32 := Scalar.muli v7 c1_i32_405
  let v338 : BitVec 32 := Scalar.addi c0_i32_406 v337
  v338.toNat
def k0_dev16 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_447 : BitVec 32 := 1#32
  let v368 : BitVec 32 := Scalar.muli v5 c1_i32_447
  let v369 : BitVec 32 := Scalar.addi c0_i32_448 v368
  v369.toNat
def k0_dev17 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_454 : BitVec 32 := 1#32
  let v378 : BitVec 32 := Scalar.muli v5 c1_i32_454
  let v379 : BitVec 32 := Scalar.addi c0_i32_455 v378
  v379.toNat
def k0_dev18 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_457 : BitVec 32 := 1#32
  let v380 : BitVec 32 := Scalar.muli v7 c1_i32_457
  let v381 : BitVec 32 := Scalar.addi c0_i32_458 v380
  v381.toNat
def k0_dev19 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_512 : BitVec 32 := 1#32
  let v422 : BitVec 32 := Scalar.muli v7 c1_i32_512
  let v423 : BitVec 32 := Scalar.addi c0_i32_513 v422
  v423.toNat
def k0_dev20 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_554 : BitVec 32 := 1#32
  let v453 : BitVec 32 := Scalar.muli v5 c1_i32_554
  let v454 : BitVec 32 := Scalar.addi c0_i32_555 v453
  v454.toNat
def k0_dev21 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_596 : BitVec 32 := 1#32
  let v484 : BitVec 32 := Scalar.muli v7 c1_i32_596
  let v485 : BitVec 32 := Scalar.addi c0_i32_597 v484
  v485.toNat
def k0_dev22 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_638 : BitVec 32 := 1#32
  let v515 : BitVec 32 := Scalar.muli v5 c1_i32_638
  let v516 : BitVec 32 := Scalar.addi c0_i32_639 v515
  v516.toNat
def k0_dev23 (d0 : Dev nD) : Nat :=
  let c0_i32_646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_645 : BitVec 32 := 1#32
  let v525 : BitVec 32 := Scalar.muli v5 c1_i32_645
  let v526 : BitVec 32 := Scalar.addi c0_i32_646 v525
  v526.toNat
def k0_dev24 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_648 : BitVec 32 := 1#32
  let v527 : BitVec 32 := Scalar.muli v7 c1_i32_648
  let v528 : BitVec 32 := Scalar.addi c0_i32_649 v527
  v528.toNat
def k0_dev25 (d0 : Dev nD) : Nat :=
  let c0_i32_704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_703 : BitVec 32 := 1#32
  let v569 : BitVec 32 := Scalar.muli v7 c1_i32_703
  let v570 : BitVec 32 := Scalar.addi c0_i32_704 v569
  v570.toNat
def k0_dev26 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_745 : BitVec 32 := 1#32
  let v600 : BitVec 32 := Scalar.muli v5 c1_i32_745
  let v601 : BitVec 32 := Scalar.addi c0_i32_746 v600
  v601.toNat
def k0_dev27 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_787 : BitVec 32 := 1#32
  let v631 : BitVec 32 := Scalar.muli v7 c1_i32_787
  let v632 : BitVec 32 := Scalar.addi c0_i32_788 v631
  v632.toNat
def k0_dev28 (d0 : Dev nD) : Nat :=
  let c0_i32_830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_829 : BitVec 32 := 1#32
  let v662 : BitVec 32 := Scalar.muli v5 c1_i32_829
  let v663 : BitVec 32 := Scalar.addi c0_i32_830 v662
  v663.toNat
def k0_dev29 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_836 : BitVec 32 := 1#32
  let v672 : BitVec 32 := Scalar.muli v5 c1_i32_836
  let v673 : BitVec 32 := Scalar.addi c0_i32_837 v672
  v673.toNat
def k0_dev30 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_839 : BitVec 32 := 1#32
  let v674 : BitVec 32 := Scalar.muli v7 c1_i32_839
  let v675 : BitVec 32 := Scalar.addi c0_i32_840 v674
  v675.toNat
def k0_dev31 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_894 : BitVec 32 := 1#32
  let v716 : BitVec 32 := Scalar.muli v7 c1_i32_894
  let v717 : BitVec 32 := Scalar.addi c0_i32_895 v716
  v717.toNat
def k0_dev32 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_936 : BitVec 32 := 1#32
  let v747 : BitVec 32 := Scalar.muli v5 c1_i32_936
  let v748 : BitVec 32 := Scalar.addi c0_i32_937 v747
  v748.toNat
def k0_dev33 (d0 : Dev nD) : Nat :=
  let c0_i32_979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_978 : BitVec 32 := 1#32
  let v778 : BitVec 32 := Scalar.muli v7 c1_i32_978
  let v779 : BitVec 32 := Scalar.addi c0_i32_979 v778
  v779.toNat
def k0_dev34 (d0 : Dev nD) : Nat :=
  let c0_i32_1021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1020 : BitVec 32 := 1#32
  let v809 : BitVec 32 := Scalar.muli v5 c1_i32_1020
  let v810 : BitVec 32 := Scalar.addi c0_i32_1021 v809
  v810.toNat
def k0_dev35 (d0 : Dev nD) : Nat :=
  let c0_i32_1028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1027 : BitVec 32 := 1#32
  let v819 : BitVec 32 := Scalar.muli v5 c1_i32_1027
  let v820 : BitVec 32 := Scalar.addi c0_i32_1028 v819
  v820.toNat
def k0_dev36 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1030 : BitVec 32 := 1#32
  let v821 : BitVec 32 := Scalar.muli v7 c1_i32_1030
  let v822 : BitVec 32 := Scalar.addi c0_i32_1031 v821
  v822.toNat
def k0_dev37 (d0 : Dev nD) : Nat :=
  let c0_i32_1086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1085 : BitVec 32 := 1#32
  let v863 : BitVec 32 := Scalar.muli v7 c1_i32_1085
  let v864 : BitVec 32 := Scalar.addi c0_i32_1086 v863
  v864.toNat
def k0_dev38 (d0 : Dev nD) : Nat :=
  let c0_i32_1128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1127 : BitVec 32 := 1#32
  let v894 : BitVec 32 := Scalar.muli v5 c1_i32_1127
  let v895 : BitVec 32 := Scalar.addi c0_i32_1128 v894
  v895.toNat
def k0_dev39 (d0 : Dev nD) : Nat :=
  let c0_i32_1170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1169 : BitVec 32 := 1#32
  let v925 : BitVec 32 := Scalar.muli v7 c1_i32_1169
  let v926 : BitVec 32 := Scalar.addi c0_i32_1170 v925
  v926.toNat
def k0_dev40 (d0 : Dev nD) : Nat :=
  let c0_i32_1212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1211 : BitVec 32 := 1#32
  let v956 : BitVec 32 := Scalar.muli v5 c1_i32_1211
  let v957 : BitVec 32 := Scalar.addi c0_i32_1212 v956
  v957.toNat
def k0_dev41 (d0 : Dev nD) : Nat :=
  let c0_i32_1219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1218 : BitVec 32 := 1#32
  let v966 : BitVec 32 := Scalar.muli v5 c1_i32_1218
  let v967 : BitVec 32 := Scalar.addi c0_i32_1219 v966
  v967.toNat
def k0_dev42 (d0 : Dev nD) : Nat :=
  let c0_i32_1222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1221 : BitVec 32 := 1#32
  let v968 : BitVec 32 := Scalar.muli v7 c1_i32_1221
  let v969 : BitVec 32 := Scalar.addi c0_i32_1222 v968
  v969.toNat
def k0_dev43 (d0 : Dev nD) : Nat :=
  let c0_i32_1277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1276 : BitVec 32 := 1#32
  let v1010 : BitVec 32 := Scalar.muli v7 c1_i32_1276
  let v1011 : BitVec 32 := Scalar.addi c0_i32_1277 v1010
  v1011.toNat
def k0_dev44 (d0 : Dev nD) : Nat :=
  let c0_i32_1319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1318 : BitVec 32 := 1#32
  let v1041 : BitVec 32 := Scalar.muli v5 c1_i32_1318
  let v1042 : BitVec 32 := Scalar.addi c0_i32_1319 v1041
  v1042.toNat
def k0_dev45 (d0 : Dev nD) : Nat :=
  let c0_i32_1361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1360 : BitVec 32 := 1#32
  let v1072 : BitVec 32 := Scalar.muli v7 c1_i32_1360
  let v1073 : BitVec 32 := Scalar.addi c0_i32_1361 v1072
  v1073.toNat
def k0_dev46 (d0 : Dev nD) : Nat :=
  let c0_i32_1403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1402 : BitVec 32 := 1#32
  let v1103 : BitVec 32 := Scalar.muli v5 c1_i32_1402
  let v1104 : BitVec 32 := Scalar.addi c0_i32_1403 v1103
  v1104.toNat
def k0_dev47 (d0 : Dev nD) : Nat :=
  let c0_i32_1410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1409 : BitVec 32 := 1#32
  let v1113 : BitVec 32 := Scalar.muli v5 c1_i32_1409
  let v1114 : BitVec 32 := Scalar.addi c0_i32_1410 v1113
  v1114.toNat
def k0_dev48 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1412 : BitVec 32 := 1#32
  let v1115 : BitVec 32 := Scalar.muli v7 c1_i32_1412
  let v1116 : BitVec 32 := Scalar.addi c0_i32_1413 v1115
  v1116.toNat
def k0_dev49 (d0 : Dev nD) : Nat :=
  let c0_i32_1470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1469 : BitVec 32 := 1#32
  let v1157 : BitVec 32 := Scalar.muli v7 c1_i32_1469
  let v1158 : BitVec 32 := Scalar.addi c0_i32_1470 v1157
  v1158.toNat
def k0_dev50 (d0 : Dev nD) : Nat :=
  let c0_i32_1512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1511 : BitVec 32 := 1#32
  let v1188 : BitVec 32 := Scalar.muli v5 c1_i32_1511
  let v1189 : BitVec 32 := Scalar.addi c0_i32_1512 v1188
  v1189.toNat
def k0_dev51 (d0 : Dev nD) : Nat :=
  let c0_i32_1554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1553 : BitVec 32 := 1#32
  let v1219 : BitVec 32 := Scalar.muli v7 c1_i32_1553
  let v1220 : BitVec 32 := Scalar.addi c0_i32_1554 v1219
  v1220.toNat
def k0_dev52 (d0 : Dev nD) : Nat :=
  let c0_i32_1596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1595 : BitVec 32 := 1#32
  let v1250 : BitVec 32 := Scalar.muli v5 c1_i32_1595
  let v1251 : BitVec 32 := Scalar.addi c0_i32_1596 v1250
  v1251.toNat
def k0_dev53 (d0 : Dev nD) : Nat :=
  let c0_i32_1603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1602 : BitVec 32 := 1#32
  let v1260 : BitVec 32 := Scalar.muli v5 c1_i32_1602
  let v1261 : BitVec 32 := Scalar.addi c0_i32_1603 v1260
  v1261.toNat
def k0_dev54 (d0 : Dev nD) : Nat :=
  let c0_i32_1606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1605 : BitVec 32 := 1#32
  let v1262 : BitVec 32 := Scalar.muli v7 c1_i32_1605
  let v1263 : BitVec 32 := Scalar.addi c0_i32_1606 v1262
  v1263.toNat
def k0_dev55 (d0 : Dev nD) : Nat :=
  let c0_i32_1663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1662 : BitVec 32 := 1#32
  let v1304 : BitVec 32 := Scalar.muli v7 c1_i32_1662
  let v1305 : BitVec 32 := Scalar.addi c0_i32_1663 v1304
  v1305.toNat
def k0_dev56 (d0 : Dev nD) : Nat :=
  let c0_i32_1705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1704 : BitVec 32 := 1#32
  let v1335 : BitVec 32 := Scalar.muli v5 c1_i32_1704
  let v1336 : BitVec 32 := Scalar.addi c0_i32_1705 v1335
  v1336.toNat
def k0_dev57 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1746 : BitVec 32 := 1#32
  let v1366 : BitVec 32 := Scalar.muli v7 c1_i32_1746
  let v1367 : BitVec 32 := Scalar.addi c0_i32_1747 v1366
  v1367.toNat
def k0_dev58 (d0 : Dev nD) : Nat :=
  let c0_i32_1789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1788 : BitVec 32 := 1#32
  let v1397 : BitVec 32 := Scalar.muli v5 c1_i32_1788
  let v1398 : BitVec 32 := Scalar.addi c0_i32_1789 v1397
  v1398.toNat
def k0_dev59 (d0 : Dev nD) : Nat :=
  let c0_i32_1796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1795 : BitVec 32 := 1#32
  let v1407 : BitVec 32 := Scalar.muli v5 c1_i32_1795
  let v1408 : BitVec 32 := Scalar.addi c0_i32_1796 v1407
  v1408.toNat
def k0_dev60 (d0 : Dev nD) : Nat :=
  let c0_i32_1799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1798 : BitVec 32 := 1#32
  let v1409 : BitVec 32 := Scalar.muli v7 c1_i32_1798
  let v1410 : BitVec 32 := Scalar.addi c0_i32_1799 v1409
  v1410.toNat
def k0_dev61 (d0 : Dev nD) : Nat :=
  let c0_i32_1856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1855 : BitVec 32 := 1#32
  let v1451 : BitVec 32 := Scalar.muli v7 c1_i32_1855
  let v1452 : BitVec 32 := Scalar.addi c0_i32_1856 v1451
  v1452.toNat
def k0_dev62 (d0 : Dev nD) : Nat :=
  let c0_i32_1898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1897 : BitVec 32 := 1#32
  let v1482 : BitVec 32 := Scalar.muli v5 c1_i32_1897
  let v1483 : BitVec 32 := Scalar.addi c0_i32_1898 v1482
  v1483.toNat
def k0_dev63 (d0 : Dev nD) : Nat :=
  let c0_i32_1940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1939 : BitVec 32 := 1#32
  let v1513 : BitVec 32 := Scalar.muli v7 c1_i32_1939
  let v1514 : BitVec 32 := Scalar.addi c0_i32_1940 v1513
  v1514.toNat
def k0_dev64 (d0 : Dev nD) : Nat :=
  let c0_i32_1982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1981 : BitVec 32 := 1#32
  let v1544 : BitVec 32 := Scalar.muli v5 c1_i32_1981
  let v1545 : BitVec 32 := Scalar.addi c0_i32_1982 v1544
  v1545.toNat
def k0_dev65 (d0 : Dev nD) : Nat :=
  let c0_i32_1989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1988 : BitVec 32 := 1#32
  let v1554 : BitVec 32 := Scalar.muli v5 c1_i32_1988
  let v1555 : BitVec 32 := Scalar.addi c0_i32_1989 v1554
  v1555.toNat
def k0_dev66 (d0 : Dev nD) : Nat :=
  let c0_i32_1992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1991 : BitVec 32 := 1#32
  let v1556 : BitVec 32 := Scalar.muli v7 c1_i32_1991
  let v1557 : BitVec 32 := Scalar.addi c0_i32_1992 v1556
  v1557.toNat
def k0_dev67 (d0 : Dev nD) : Nat :=
  let c0_i32_2049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2048 : BitVec 32 := 1#32
  let v1598 : BitVec 32 := Scalar.muli v7 c1_i32_2048
  let v1599 : BitVec 32 := Scalar.addi c0_i32_2049 v1598
  v1599.toNat
def k0_dev68 (d0 : Dev nD) : Nat :=
  let c0_i32_2091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2090 : BitVec 32 := 1#32
  let v1629 : BitVec 32 := Scalar.muli v5 c1_i32_2090
  let v1630 : BitVec 32 := Scalar.addi c0_i32_2091 v1629
  v1630.toNat
def k0_dev69 (d0 : Dev nD) : Nat :=
  let c0_i32_2133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2132 : BitVec 32 := 1#32
  let v1660 : BitVec 32 := Scalar.muli v7 c1_i32_2132
  let v1661 : BitVec 32 := Scalar.addi c0_i32_2133 v1660
  v1661.toNat
def k0_dev70 (d0 : Dev nD) : Nat :=
  let c0_i32_2175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2174 : BitVec 32 := 1#32
  let v1691 : BitVec 32 := Scalar.muli v5 c1_i32_2174
  let v1692 : BitVec 32 := Scalar.addi c0_i32_2175 v1691
  v1692.toNat
def k0_dev71 (d0 : Dev nD) : Nat :=
  let c0_i32_2182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2181 : BitVec 32 := 1#32
  let v1701 : BitVec 32 := Scalar.muli v5 c1_i32_2181
  let v1702 : BitVec 32 := Scalar.addi c0_i32_2182 v1701
  v1702.toNat
def k0_dev72 (d0 : Dev nD) : Nat :=
  let c0_i32_2185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2184 : BitVec 32 := 1#32
  let v1703 : BitVec 32 := Scalar.muli v7 c1_i32_2184
  let v1704 : BitVec 32 := Scalar.addi c0_i32_2185 v1703
  v1704.toNat
def k0_dev73 (d0 : Dev nD) : Nat :=
  let c0_i32_2242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2241 : BitVec 32 := 1#32
  let v1745 : BitVec 32 := Scalar.muli v7 c1_i32_2241
  let v1746 : BitVec 32 := Scalar.addi c0_i32_2242 v1745
  v1746.toNat
def k0_dev74 (d0 : Dev nD) : Nat :=
  let c0_i32_2284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2283 : BitVec 32 := 1#32
  let v1776 : BitVec 32 := Scalar.muli v5 c1_i32_2283
  let v1777 : BitVec 32 := Scalar.addi c0_i32_2284 v1776
  v1777.toNat
def k0_dev75 (d0 : Dev nD) : Nat :=
  let c0_i32_2326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2325 : BitVec 32 := 1#32
  let v1807 : BitVec 32 := Scalar.muli v7 c1_i32_2325
  let v1808 : BitVec 32 := Scalar.addi c0_i32_2326 v1807
  v1808.toNat
def k0_dev76 (d0 : Dev nD) : Nat :=
  let c0_i32_2368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2367 : BitVec 32 := 1#32
  let v1838 : BitVec 32 := Scalar.muli v5 c1_i32_2367
  let v1839 : BitVec 32 := Scalar.addi c0_i32_2368 v1838
  v1839.toNat
def k0_dev77 (d0 : Dev nD) : Nat :=
  let c0_i32_2375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2374 : BitVec 32 := 1#32
  let v1848 : BitVec 32 := Scalar.muli v5 c1_i32_2374
  let v1849 : BitVec 32 := Scalar.addi c0_i32_2375 v1848
  v1849.toNat
def k0_dev78 (d0 : Dev nD) : Nat :=
  let c0_i32_2378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2377 : BitVec 32 := 1#32
  let v1850 : BitVec 32 := Scalar.muli v7 c1_i32_2377
  let v1851 : BitVec 32 := Scalar.addi c0_i32_2378 v1850
  v1851.toNat
def k0_dev79 (d0 : Dev nD) : Nat :=
  let c0_i32_2435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2434 : BitVec 32 := 1#32
  let v1892 : BitVec 32 := Scalar.muli v7 c1_i32_2434
  let v1893 : BitVec 32 := Scalar.addi c0_i32_2435 v1892
  v1893.toNat
def k0_dev80 (d0 : Dev nD) : Nat :=
  let c0_i32_2477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2476 : BitVec 32 := 1#32
  let v1923 : BitVec 32 := Scalar.muli v5 c1_i32_2476
  let v1924 : BitVec 32 := Scalar.addi c0_i32_2477 v1923
  v1924.toNat
def k0_dev81 (d0 : Dev nD) : Nat :=
  let c0_i32_2519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2518 : BitVec 32 := 1#32
  let v1954 : BitVec 32 := Scalar.muli v7 c1_i32_2518
  let v1955 : BitVec 32 := Scalar.addi c0_i32_2519 v1954
  v1955.toNat
def k0_dev82 (d0 : Dev nD) : Nat :=
  let c0_i32_2561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2560 : BitVec 32 := 1#32
  let v1985 : BitVec 32 := Scalar.muli v5 c1_i32_2560
  let v1986 : BitVec 32 := Scalar.addi c0_i32_2561 v1985
  v1986.toNat
def k0_dev83 (d0 : Dev nD) : Nat :=
  let c0_i32_2568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2567 : BitVec 32 := 1#32
  let v1995 : BitVec 32 := Scalar.muli v5 c1_i32_2567
  let v1996 : BitVec 32 := Scalar.addi c0_i32_2568 v1995
  v1996.toNat
def k0_dev84 (d0 : Dev nD) : Nat :=
  let c0_i32_2571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2570 : BitVec 32 := 1#32
  let v1997 : BitVec 32 := Scalar.muli v7 c1_i32_2570
  let v1998 : BitVec 32 := Scalar.addi c0_i32_2571 v1997
  v1998.toNat
def k0_dev85 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2627 : BitVec 32 := 1#32
  let v2039 : BitVec 32 := Scalar.muli v7 c1_i32_2627
  let v2040 : BitVec 32 := Scalar.addi c0_i32_2628 v2039
  v2040.toNat
def k0_dev86 (d0 : Dev nD) : Nat :=
  let c0_i32_2670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2669 : BitVec 32 := 1#32
  let v2070 : BitVec 32 := Scalar.muli v5 c1_i32_2669
  let v2071 : BitVec 32 := Scalar.addi c0_i32_2670 v2070
  v2071.toNat
def k0_dev87 (d0 : Dev nD) : Nat :=
  let c0_i32_2712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2711 : BitVec 32 := 1#32
  let v2101 : BitVec 32 := Scalar.muli v7 c1_i32_2711
  let v2102 : BitVec 32 := Scalar.addi c0_i32_2712 v2101
  v2102.toNat
def k0_dev88 (d0 : Dev nD) : Nat :=
  let c0_i32_2754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2753 : BitVec 32 := 1#32
  let v2132 : BitVec 32 := Scalar.muli v5 c1_i32_2753
  let v2133 : BitVec 32 := Scalar.addi c0_i32_2754 v2132
  v2133.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Steps.lean ====
/-
# The kernel as a chain of steps

The body of the kernel is straight-line code of sixteen steps. Every step runs the same few operations on two rings:
the ring that travels to the right (`false`) and the ring that travels to the left (`true`), each cut into two
halves of columns (`j : Fin 2`). This module writes those operations once, as functions of the ring, the half and the
step, and states that the printed body is the chain of them.
-/
module

public import proofs.«01_k».proof.Proof.Gen.KernelIdeal.Skeleton
public import proofs.«01_k».proof.Proof.Gen.KernelIdeal.Launch

@[expose] public section

noncomputable section

namespace Cert.RingProof

open Cert.KernelIdeal Cert.KernelIdeal.Gen
open Idealize.ShloMosaic Idealize.SL.Sem

variable {F : FTy → Type} [FloatOps F]

/-! ## The buffers and semaphores of a ring -/

/-- The ring's two send slots. -/
abbrev sendM (ρ : Bool) : Memref sig .tc .vmem S2x256x2048 .f32 :=
  match ρ with | false => Memref.whole cc0_scratch0 | true => Memref.whole cc0_scratch1
/-- The ring's four landing slots: two phases of two halves. -/
abbrev recvM (ρ : Bool) : Memref sig .tc .vmem S2x2x256x2048 .f32 :=
  match ρ with | false => Memref.whole cc0_scratch2 | true => Memref.whole cc0_scratch3
/-- The ring's send semaphores, one per half. -/
abbrev sndA (ρ : Bool) : DmaSems sig S2 := match ρ with | false => cc0_scratch4 | true => cc0_scratch5
/-- The ring's landing semaphores, one per phase and half. -/
abbrev rcvA (ρ : Bool) : DmaSems sig S2x2 := match ρ with | false => cc0_scratch6 | true => cc0_scratch7
/-- The ring's credit semaphore. -/
abbrev crdA (ρ : Bool) : Sems sig S_ := match ρ with | false => cc0_scratch8 | true => cc0_scratch9

theorem inbS : ∀ (j : Fin 2) (a), (![j.val, 0, 0] : Fin 3 → ℕ) a + S1x256x2048.size a ≤ S2x256x2048.size a := by decide
theorem inbR : ∀ (q j : Fin 2) (a), (![q.val, j.val, 0, 0] : Fin 4 → ℕ) a + S1x1x256x2048.size a ≤ S2x2x256x2048.size a := by
  decide
theorem inbD : ∀ (j : Fin 2) (a), (![j.val] : Fin 1 → ℕ) a + S1.size a ≤ S2.size a := by decide
theorem inbE : ∀ (q j : Fin 2) (a), (![q.val, j.val] : Fin 2 → ℕ) a + S1x1.size a ≤ S2x2.size a := by decide
/-- The first column of the ring's half of `w`. -/
abbrev colW (ρ : Bool) : ℕ := match ρ with | false => 0 | true => 4096
theorem inbW : ∀ (ρ : Bool) (a), (![0, colW ρ] : Fin 2 → ℕ) a + S256x4096.size a ≤ S256x8192.size a := by decide
/-- The first column of the ring's and half's quarter of the output. -/
abbrev colO (ρ : Bool) (j : Fin 2) : ℕ := match ρ with | false => 2048 * j.val | true => 4096 + 2048 * j.val
theorem inbO : ∀ (ρ : Bool) (j : Fin 2) (a), (![0, colO ρ j] : Fin 2 → ℕ) a + S256x2048.size a ≤ S256x8192.size a := by
  decide
theorem slP : ∀ j : Fin 2, S256x4096.Slices ![0, 2048 * j.val] S256x2048 := by
  intro j; fin_cases j
  · exact slices_S256x4096_o0_0_S256x2048
  · exact slices_S256x4096_o0_2048_S256x2048

/-- The rectangle of one send slot. -/
abbrev rS (j : Fin 2) := Rect.unit (s := S2x256x2048) ![j.val, 0, 0] S1x256x2048.size (inbS j)
/-- The rectangle of one landing slot. -/
abbrev rR (q j : Fin 2) := Rect.unit (s := S2x2x256x2048) ![q.val, j.val, 0, 0] S1x1x256x2048.size (inbR q j)
/-- The rectangle of one quarter of the output's columns. -/
abbrev rO (ρ : Bool) (j : Fin 2) := Rect.unit (s := S256x8192) ![0, colO ρ j] S256x2048.size (inbO ρ j)

/-- A send slot as a matrix. -/
abbrev sendV (ρ : Bool) (j : Fin 2) : Memref sig .tc .vmem S256x2048 .f32 :=
  ((sendM ρ).slice (rS j) (fun _ => rfl)).squeeze S256x2048 squeezes_S1x256x2048_S256x2048
/-- A landing slot as a matrix. -/
abbrev recvV (ρ : Bool) (q j : Fin 2) : Memref sig .tc .vmem S256x2048 .f32 :=
  ((recvM ρ).slice (rR q j) (fun _ => rfl)).squeeze S256x2048 squeezes_S1x1x256x2048_S256x2048
/-- The send semaphore of a half. -/
abbrev sndS (ρ : Bool) (j : Fin 2) : DmaSem sig :=
  (((sndA ρ).slice (Rect.unit (s := S2) ![j.val] S1.size (inbD j))).squeeze S_ squeezes_S1_S_).sem
/-- The landing semaphore of a phase and half. -/
abbrev rcvS (ρ : Bool) (q j : Fin 2) : DmaSem sig :=
  (((rcvA ρ).slice (Rect.unit (s := S2x2) ![q.val, j.val] S1x1.size (inbE q j))).squeeze S_ squeezes_S1x1_S_).sem

/-- The device a ring's copies go to, as the kernel computes it. -/
abbrev peer (ρ : Bool) (c : Dev nD) : Dev nD :=
  match ρ with | false => ⟨k0_dev2 c, k0_dev2_lt c⟩ | true => ⟨k0_dev1 c, k0_dev1_lt c⟩

/-! ## The values -/

/-- One half of a partial product's columns. -/
def sub (j : Fin 2) (p : FVec F S256x4096 .f32) : FVec F S256x2048 .f32 :=
  extractStridedSlice S256x2048 ![0, 2048 * j.val] p (slP j)
/-- The partial product of a chunk of rows of `x` with half of the columns of `w`. -/
def mm (x : Vec F S256x256 .f32) (w : Vec F S256x4096 .f32) : FVec F S256x4096 .f32 :=
  matmul dot_S256x256_S256x4096_S256x4096_1_0_0_1_n_n none (shapeCast S256x256 x shapeCasts_S256x256_S256x256)
    (shapeCast S256x4096 w shapeCasts_S256x4096_S256x4096) (constant S256x4096 .f32 0x00000000#32)
/-- A matrix as the contents of a send slot. -/
abbrev up (v : FVec F S256x2048 .f32) : FVec F S1x256x2048 .f32 := shapeCast S1x256x2048 v shapeCasts_S256x2048_S1x256x2048
/-- The contents of a landing slot as a matrix. -/
abbrev down (v : Vec F S1x1x256x2048 .f32) : FVec F S256x2048 .f32 := shapeCast S256x2048 v shapeCasts_S1x1x256x2048_S256x2048
/-- The activation the last step applies to the finished sum. -/
def act (y : FVec F S256x2048 .f32) : FVec F S256x2048 .f32 :=
  mulf (mulf (broadcast S256x2048 (Scalar.ofBits .f32 0x3F000000#32)) y)
    (addf (broadcast S256x2048 (Scalar.ofBits .f32 0x3F800000#32))
      (tanh (mulf (broadcast S256x2048 (Scalar.ofBits .f32 0x3F4C422A#32))
        (addf y (mulf (mulf (mulf (broadcast S256x2048 (Scalar.ofBits .f32 0x3D372713#32)) y) y) y)))))

/-! ## The operations -/

variable (arg0 : Memref sig .tc .vmem S4096x256 .f32) (arg1 arg2 : Memref sig .tc .vmem S256x8192 .f32)

/-- The first row of the chunk of `x` that a ring's copy of step `s` sums. -/
abbrev offX (ρ : Bool) (c : Dev nD) (s : Fin 16) : Fin 2 → ℕ :=
  match ρ with
  | false => k0_off1 c (BitVec.ofNat 32 s.rev.val)
  | true => k0_off2 c (BitVec.ofNat 32 s.val)
theorem offX_inb (ρ : Bool) (c : Dev nD) (s : Fin 16) : ∀ a, offX ρ c s a + S256x256.size a ≤ S4096x256.size a := by
  cases ρ
  · exact k0_off1_inb c s.rev
  · exact k0_off2_inb c s

/-- Read a chunk of `x` and half of `w`, and form their product. -/
abbrev partP (ρ : Bool) (c : Dev nD) (s : Fin 16) : Prog (TpuEff nD τ sig (Elt F) Λ₀ .tc) (FVec F S256x4096 .f32) := do
  let x : Vec F S256x256 .f32 ← Prog.lift (.load arg0 (Rect.unit (s := S4096x256) (offX ρ c s) S256x256.size (offX_inb ρ c s)).toLoadRect (View.loadsAt_vmem h_S256x256))
  let w : Vec F S256x4096 .f32 ← Prog.lift (.load arg1 (Rect.unit (s := S256x8192) ![0, colW ρ] S256x4096.size (inbW ρ)).toLoadRect (View.loadsAt_vmem h_S256x4096))
  pure (mm x w)

/-- Put a matrix into a send slot (the slot's old contents are read and dropped) and start its copy into a landing
    slot of the ring's next device. -/
abbrev sendP (ρ : Bool) (j q : Fin 2) (c : Dev nD) (v : FVec F S256x2048 .f32) : Prog (TpuEff nD τ sig (Elt F) Λ₀ .tc) PUnit := do
  let _ : Vec F S1x256x2048 .f32 ← Prog.lift (.load (sendM ρ) (rS j).toLoadRect (View.loadsAt_vmem h_S1x256x2048))
  Prog.lift (.store (sendM ρ) (rS j) (up v) Finset.univ (View.stores_vmem_bits_univ h_S1x256x2048 rfl) (.inl rfl))
  Prog.lift (.enqueueDma (sendV ρ j) (.remote (Dev.tc (peer ρ c)) (recvV ρ q j) (.dma (sndS ρ j))) (.dma (rcvS ρ q j)) ((View.wordExact_bits rfl).reshape _ _) ((View.wordExact_bits rfl).reshape _ _) ⟨⟨rfl, Or.inl rfl⟩, trivial⟩)

/-- Wait for the previous copy out of the send slot and for the copy into the landing slot, and read the latter. -/
abbrev takeP (ρ : Bool) (j q : Fin 2) : Prog (TpuEff nD τ sig (Elt F) Λ₀ .tc) (Vec F S1x1x256x2048 .f32) := do
  Prog.lift (.waitDma2 (sndS ρ j) (recvV ρ q j) (sendV ρ j) ((View.wordExact_bits rfl).reshape _ _) ((View.wordExact_bits rfl).reshape _ _))
  Prog.lift (.waitDma2 (rcvS ρ q j) (sendV ρ j) (recvV ρ q j) ((View.wordExact_bits rfl).reshape _ _) ((View.wordExact_bits rfl).reshape _ _))
  let v : Vec F S1x1x256x2048 .f32 ← Prog.lift (.load (recvM ρ) (rR q j).toLoadRect (View.loadsAt_vmem h_S1x1x256x2048))
  pure v

/-- One hop of a middle step: take what has landed, add the own part, send it on. -/
abbrev hopP (ρ : Bool) (j q q' : Fin 2) (c : Dev nD) (p : FVec F S256x4096 .f32) : Prog (TpuEff nD τ sig (Elt F) Λ₀ .tc) PUnit := do
  let v ← takeP ρ j q
  sendP ρ j q' c (addf (sub j p) (down v))

/-- The last hop: take what has landed, add the own part, and write the activation of the sum to the output. -/
abbrev lastP (ρ : Bool) (j q : Fin 2) (p : FVec F S256x4096 .f32) : Prog (TpuEff nD τ sig (Elt F) Λ₀ .tc) PUnit := do
  let v ← takeP ρ j q
  let _ : Vec F S256x2048 .f32 ← Prog.lift (.load arg2 (rO ρ j).toLoadRect (View.loadsAt_vmem h_S256x2048))
  Prog.lift (.store arg2 (rO ρ j) (act (addf (sub j p) (down v))) Finset.univ (View.stores_vmem_bits_univ h_S256x2048 rfl) (.inl rfl))

/-- The entry handshake. -/
abbrev barP (c : Dev nD) : Prog (TpuEff nD τ sig (Elt F) Λ₀ .tc) PUnit := do
  semSignalWord (peer true c) (sig.barrier 0 rfl) 1#32
  semSignalWord (peer false c) (sig.barrier 0 rfl) 1#32
  semWaitWord (sig.barrier 0 rfl) 2#32

/-- The first step: both partial products, and the four copies. -/
abbrev step0P (c : Dev nD) : Prog (TpuEff nD τ sig (Elt F) Λ₀ .tc) PUnit := do
  let p ← partP arg0 arg1 false c 0
  let p' ← partP arg0 arg1 true c 0
  sendP false 0 1 c (sub 0 p)
  sendP true 0 1 c (sub 0 p')
  sendP false 1 1 c (sub 1 p)
  sendP true 1 1 c (sub 1 p')

/-- The credit waits of a step that has them. -/
abbrev crWaitP (b : Bool) : Prog (TpuEff nD τ sig (Elt F) Λ₀ .tc) PUnit :=
  match b with
  | false => pure ⟨⟩
  | true => do semWaitWord (crdA false).sem 1#32; semWaitWord (crdA true).sem 1#32
/-- The credits a step that gives them gives: each to the device its ring's copies come from. -/
abbrev crGiveP (b : Bool) (c : Dev nD) : Prog (TpuEff nD τ sig (Elt F) Λ₀ .tc) PUnit :=
  match b with
  | false => pure ⟨⟩
  | true => do semSignalWord (peer true c) (crdA false).sem 1#32; semSignalWord (peer false c) (crdA true).sem 1#32

/-- A middle step. -/
abbrev stepP (c : Dev nD) (s : Fin 16) (q q' : Fin 2) (b b' : Bool) : Prog (TpuEff nD τ sig (Elt F) Λ₀ .tc) PUnit := do
  let p ← partP arg0 arg1 false c s
  let p' ← partP arg0 arg1 true c s
  crWaitP b
  hopP false 0 q q' c p
  hopP true 0 q q' c p'
  hopP false 1 q q' c p
  hopP true 1 q q' c p'
  crGiveP b' c

/-- The last step. -/
abbrev stepLP (c : Dev nD) : Prog (TpuEff nD τ sig (Elt F) Λ₀ .tc) PUnit := do
  let p ← partP arg0 arg1 false c 15
  let p' ← partP arg0 arg1 true c 15
  lastP arg2 false 0 1 p
  lastP arg2 true 0 1 p'
  lastP arg2 false 1 1 p
  lastP arg2 true 1 1 p'

/-- The whole body after the device's number is read. -/
abbrev bodyP (c : Dev nD) : Prog (TpuEff nD τ sig (Elt F) Λ₀ .tc) PUnit := do
  barP c
  step0P arg0 arg1 c
  stepP arg0 arg1 c 1 1 0 false true
  stepP arg0 arg1 c 2 0 1 true true
  stepP arg0 arg1 c 3 1 0 true true
  stepP arg0 arg1 c 4 0 1 true true
  stepP arg0 arg1 c 5 1 0 true true
  stepP arg0 arg1 c 6 0 1 true true
  stepP arg0 arg1 c 7 1 0 true true
  stepP arg0 arg1 c 8 0 1 true true
  stepP arg0 arg1 c 9 1 0 true true
  stepP arg0 arg1 c 10 0 1 true true
  stepP arg0 arg1 c 11 1 0 true true
  stepP arg0 arg1 c 12 0 1 true true
  stepP arg0 arg1 c 13 1 0 true true
  stepP arg0 arg1 c 14 0 1 true false
  stepLP arg0 arg1 arg2 c

set_option maxRecDepth 65536 in
set_option maxHeartbeats 4000000 in
/-- The printed body is the chain of steps. -/
theorem body_eq (h0 : arg0.IsWhole) (h1 : arg1.IsWhole) (h2 : arg2.IsWhole) (h3 h4 h5 h6) :
    cc0_body (F := F) arg0 h0 arg1 h1 arg2 h2 (Memref.whole cc0_scratch0) h3 (Memref.whole cc0_scratch1) h4
      (Memref.whole cc0_scratch2) h5 (Memref.whole cc0_scratch3) h6 cc0_scratch4 cc0_scratch5 cc0_scratch6 cc0_scratch7
      cc0_scratch8 cc0_scratch9
    = Prog.op .deviceId (fun c => bodyP arg0 arg1 arg2 c) := by
  rfl

end Cert.RingProof

end
-- ==== Proof.Protocol.lean ====
/-
# The protocol of the ring: cells, duties and what each landing hands over

Per device and ring `ρ` (`false`: copies go to the next device; `true`: to the previous one) and half `j` of the
columns. `dst ρ c` is the device ring `ρ` carries `c`'s copies to, `src ρ c` the one they come from.

* The barrier cell: one round of two units, one from each neighbour. The unit of the neighbour `dst ρ c` says that its
  landing slots for the copies of steps 0 and 1 are free.
* The credit cell of ring `ρ`: one round of thirteen units, the `k`-th (`1 ≤ k ≤ 13`) given by `dst ρ c` in its step
  `k`; it says that the slots for the copies of the steps up to `k + 1` are free. The owner takes one unit at each of
  its steps 2 to 14. Units may arrive in any order: after `i` units one numbered at least `i` has arrived.
* The send cell of ring `ρ`, half `j`: fifteen rounds, one per copy; the landing hands the send slot back.
* The landing cell of ring `ρ`, phase `q`, half `j`: one round per copy into it (eight for phase 1, seven for phase
  0); the landing hands over the landing slot, holding the sender's running sum of that step.

That a slot is free is the mark `Release.released`, which can be copied; the slot itself waits in an invariant, from
which the sender takes it with a token it can use once.
-/
module

public import proofs.«01_k».proof.Proof.Steps
public import Idealize.ShloMosaic.Lib.Rounds
public import Idealize.ShloMosaic.Lib.Release
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) ℕ
/-- The name of one use of a landing slot: device, ring, half, step of the copy. -/
abbrev SK : Type := Dev nD × Bool × Fin 2 × ℕ
abbrev UU : Type := UR sig nD τ × (UB × Release.USlots SK)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Release.USlots SK)).trans embR
abbrev ES : Emb (Release.USlots SK) (MT nD τ sig ℕ (Elt F) ℕ UU ℕ) :=
  (Emb.inr : Emb (Release.USlots SK) (UB × Release.USlots SK)).trans embR

/-! ## The ring -/

set_option backward.proofsInPublic true in
/-- The next device. -/
def nxt (c : Dev nD) : Dev nD := ⟨(c.val + 1) % 16, Nat.mod_lt _ (by decide)⟩
set_option backward.proofsInPublic true in
/-- The previous device. -/
def prv (c : Dev nD) : Dev nD := ⟨(c.val + 15) % 16, Nat.mod_lt _ (by decide)⟩
theorem prv_nxt (c : Dev nD) : prv (nxt c) = c := by revert c; decide
theorem nxt_prv (c : Dev nD) : nxt (prv c) = c := by revert c; decide

/-- Where ring `ρ` carries `c`'s copies. -/
def dst (ρ : Bool) (c : Dev nD) : Dev nD := match ρ with | false => nxt c | true => prv c
/-- Where ring `ρ`'s copies into `c` come from. -/
def src (ρ : Bool) (c : Dev nD) : Dev nD := match ρ with | false => prv c | true => nxt c
theorem src_dst (ρ : Bool) (c : Dev nD) : src ρ (dst ρ c) = c := by cases ρ; exact prv_nxt c; exact nxt_prv c
theorem dst_src (ρ : Bool) (c : Dev nD) : dst ρ (src ρ c) = c := by cases ρ; exact nxt_prv c; exact prv_nxt c
/-- A ring as a permutation of the devices. -/
def ring (ρ : Bool) : Dev nD ≃ Dev nD := ⟨dst ρ, src ρ, src_dst ρ, dst_src ρ⟩

/-- The kernel's computed neighbour is the ring's. -/
theorem peer_eq (ρ : Bool) (c : Dev nD) : peer ρ c = dst ρ c := by
  cases ρ
  · exact Fin.ext (k0_dev2_eq c)
  · exact Fin.ext (k0_dev1_eq c)
/-- Against a ring, the kernel's computed neighbour is the other ring's. -/
theorem peer_not (ρ : Bool) (c : Dev nD) : peer (!ρ) c = src ρ c := by
  cases ρ
  · exact Fin.ext (k0_dev1_eq c)
  · exact Fin.ext (k0_dev2_eq c)

/-! ## Cells -/

/-- The kinds of cell a device owns. -/
inductive CI where
  | bar
  | cr (ρ : Bool)
  | snd (ρ : Bool) (j : Fin 2)
  | rcv (ρ : Bool) (q j : Fin 2)
deriving DecidableEq

/-- The kinds of cell, as tuples. -/
def CI.equiv : (Unit ⊕ Bool ⊕ (Bool × Fin 2) ⊕ (Bool × Fin 2 × Fin 2)) ≃ CI where
  toFun
    | .inl _ => .bar
    | .inr (.inl ρ) => .cr ρ
    | .inr (.inr (.inl p)) => .snd p.1 p.2
    | .inr (.inr (.inr p)) => .rcv p.1 p.2.1 p.2.2
  invFun
    | .bar => .inl ()
    | .cr ρ => .inr (.inl ρ)
    | .snd ρ j => .inr (.inr (.inl (ρ, j)))
    | .rcv ρ q j => .inr (.inr (.inr (ρ, q, j)))
  left_inv := by rintro (_ | _ | _ | _) <;> rfl
  right_inv := by rintro (_ | _ | _ | _) <;> rfl

instance : Fintype CI := Fintype.ofEquiv _ CI.equiv

/-- The semaphore of a kind of cell. -/
def csem : CI → SemLoc sig
  | .bar => .reg (sig.barrier 0 rfl)
  | .cr ρ => .reg (crdA ρ).sem
  | .snd ρ j => .dma (sndS ρ j)
  | .rcv ρ q j => .dma (rcvS ρ q j)

theorem csem_inj : Function.Injective csem := by decide

/-- A device's cell. -/
abbrev cell (c : Dev nD) (i : CI) : GSem nD τ sig := ((c : Thread nD τ), csem i)

theorem cell_inj {c c' : Dev nD} {i i' : CI} (h : cell c i = cell c' i') : c = c' ∧ i = i' := by
  have h1 := congrArg Prod.fst h
  exact ⟨congrArg Prod.fst h1, csem_inj (congrArg Prod.snd h)⟩

/-- The kind of cell a semaphore is, if it is one of the ring's. -/
def dec : SemLoc sig → Option CI := Function.partialInv csem
theorem dec_csem (i : CI) : dec (csem i) = some i := Function.partialInv_left csem_inj i

/-- The phase of a step. -/
def ph (s : ℕ) : Fin 2 := Fin.ofNat 2 s
theorem ph_add_two (s : ℕ) : ph (s + 2) = ph s := Fin.ext (by simp [ph])
/-- The step of the copy that round `r` of a landing cell of phase `q` receives. -/
def sendOf (q : Fin 2) (r : ℕ) : ℕ := 2 * r + (1 - q.val)
theorem sendOf_ph (s : ℕ) : sendOf (ph (s + 1)) (s / 2) = s := by
  simp only [sendOf, ph, Fin.ofNat]; omega

/-- The units one copy of a slot brings. -/
def N : ℕ := (sendV false 0).view.dmaCredit
theorem N_pos : 0 < N := View.dmaCredit_pos _ (by decide)
theorem recv_credit : ∀ (ρ : Bool) (q j : Fin 2), (recvV ρ q j).view.dmaCredit = N := by
  intro ρ q j; cases ρ <;> rfl
theorem send_credit : ∀ (ρ : Bool) (j : Fin 2), (sendV ρ j).view.dmaCredit = N := by
  intro ρ j; cases ρ <;> rfl

/-! ## The values -/

variable (X : Dev nD → (cc0_stg0_0 : Ref sig .tc).ty.Contents (Elt F))
variable (Y : Dev nD → (cc0_stg1_0 : Ref sig .tc).ty.Contents (Elt F))

/-- The partial product device `c` forms for ring `ρ` in step `s`. -/
def prt (ρ : Bool) (c : Dev nD) (s : ℕ) : FVec F S256x4096 .f32 :=
  mm ((Memref.whole cc0_stg0_0 : Memref sig .tc .vmem S4096x256 .f32).view.readAt (Elt F)
        (Rect.unit (s := S4096x256) (offX ρ c (Fin.ofNat 16 s)) S256x256.size (offX_inb ρ c (Fin.ofNat 16 s))).toLoadRect (X c))
     ((Memref.whole cc0_stg1_0 : Memref sig .tc .vmem S256x8192 .f32).view.readAt (Elt F)
        (Rect.unit (s := S256x8192) ![0, colW ρ] S256x4096.size (inbW ρ)).toLoadRect (Y c))

/-- The running sum device `c` holds for ring `ρ` and half `j` after adding its part in step `s`. -/
def val (ρ : Bool) (j : Fin 2) : ℕ → Dev nD → FVec F S256x2048 .f32
  | 0, c => sub j (prt X Y ρ c 0)
  | s + 1, c => addf (sub j (prt X Y ρ c (s + 1))) (val ρ j s (src ρ c))

/-! ## Slots -/

/-- A send slot at contents `f`. -/
def sendPts (c : Dev nD) (ρ : Bool) (j : Fin 2) (f : Buf (Elt F) ((sendV ρ j).view.loc (c : Thread nD τ))) : sProp 𝕄 :=
  (sendV ρ j).view.loc (c : Thread nD τ) ↦[(sendV ρ j).view.set]{fullShare} f
/-- A landing slot at contents `f`. -/
def recvPts (c : Dev nD) (ρ : Bool) (q j : Fin 2) (f : Buf (Elt F) ((recvV ρ q j).view.loc (c : Thread nD τ))) : sProp 𝕄 :=
  (recvV ρ q j).view.loc (c : Thread nD τ) ↦[(recvV ρ q j).view.set]{fullShare} f
/-- A landing slot at any contents. -/
def recvSlot (c : Dev nD) (ρ : Bool) (q j : Fin 2) : sProp 𝕄 := iprop(∃ f, recvPts c ρ q j f)
/-- A landing slot holding the value `v`. -/
def landed (c : Dev nD) (ρ : Bool) (q j : Fin 2) (v : FVec F S256x2048 .f32) : sProp 𝕄 :=
  iprop(∃ f : Buf (Elt F) ((recvV ρ q j).view.loc (c : Thread nD τ)), ⌜(recvV ρ q j).view.read (Elt F) f = v⌝ ∗ recvPts c ρ q j f)
/-- A send slot at any contents. -/
def sendSlot (c : Dev nD) (ρ : Bool) (j : Fin 2) : sProp 𝕄 := iprop(∃ f, sendPts c ρ j f)

omit [FloatOps F] in
instance sendSlot_storable (c : Dev nD) (ρ : Bool) (j : Fin 2) :
    BI.Storable (upEmb : UEmb _ 𝕄) (sendSlot (F := F) c ρ j) := by unfold sendSlot sendPts; infer_instance
omit [FloatOps F] in
instance recvSlot_storable (c : Dev nD) (ρ : Bool) (q j : Fin 2) :
    BI.Storable (upEmb : UEmb _ 𝕄) (recvSlot (F := F) c ρ q j) := by unfold recvSlot recvPts; infer_instance

instance landed_storable (c : Dev nD) (ρ : Bool) (q j : Fin 2) (v : FVec F S256x2048 .f32) :
    BI.Storable (upEmb : UEmb _ 𝕄) (landed (F := F) c ρ q j v) := by unfold landed recvPts; infer_instance

/-! ## The schedule -/

/-- Device `d`'s landing slots for ring `ρ`'s copy of step `s` are free, and their cells have reached that copy's round. -/
def freed (d : Dev nD) (ρ : Bool) (s : ℕ) : sProp 𝕄 :=
  bigSep Finset.univ fun j : Fin 2 =>
    iprop(Release.released ES (d, ρ, j, s) 1 ∗ reached ER (cell d (.rcv ρ (ph (s + 1)) j)) (s / 2))
/-- So for the copies of every step below `n`. -/
def freedTo (d : Dev nD) (ρ : Bool) (n : ℕ) : sProp 𝕄 := bigSep (Finset.range n) (freed d ρ)

omit [FloatOps F] in
instance freed_persistent (d : Dev nD) (ρ : Bool) (s : ℕ) : BI.Persistent (freed (F := F) d ρ s) := by
  unfold freed; infer_instance
omit [FloatOps F] in
instance freedTo_persistent (d : Dev nD) (ρ : Bool) (n : ℕ) : BI.Persistent (freedTo (F := F) d ρ n) := by
  unfold freedTo; infer_instance

/-- The duties of a round of a cell. -/
def dut : CI → ℕ → Finset ℕ
  | .bar, r => if r = 0 then {0, 1} else ∅
  | .cr _, r => if r = 0 then Finset.Icc 1 13 else ∅
  | .snd _ _, r => if r < 15 then {0} else ∅
  | .rcv _ q _, r => if sendOf q r < 15 then {0} else ∅
/-- The units of a duty. -/
def amt : CI → ℕ
  | .bar => 1
  | .cr _ => 1
  | .snd _ _ => N
  | .rcv _ _ _ => N
/-- What a duty hands over. -/
def pay (c : Dev nD) (i : CI) (r d : ℕ) : sProp 𝕄 :=
  match i with
  | .bar => freedTo (dst (d = 1) c) (d = 1) 2
  | .cr ρ => freedTo (dst ρ c) ρ (d + 2)
  | .snd ρ j => sendSlot c ρ j
  | .rcv ρ q j => landed c ρ q j (val X Y ρ j (sendOf q r) (src ρ c))

theorem amt_pos : ∀ i : CI, 0 < amt i
  | .bar => Nat.one_pos
  | .cr _ => Nat.one_pos
  | .snd _ _ => N_pos
  | .rcv _ _ _ => N_pos

theorem elim_pos : ∀ o : Option CI, 0 < o.elim 1 amt
  | none => Nat.one_pos
  | some i => amt_pos i

/-- The schedule. -/
def Rd : Rounds.Schedule (GSem nD τ sig) ℕ 𝕄 where
  duties g r := if g.1.2 = .tc then (dec g.2).elim ∅ (fun i => dut i r) else ∅
  unitless _ := False
  amount g _ _ := (dec g.2).elim 1 amt
  payload g r d := (dec g.2).elim iprop(emp) (fun i => pay X Y g.1.1 i r d)
  amount_pos g _ _ _ := elim_pos (dec g.2)

omit [FloatOps F] in
instance freedTo_storable (d : Dev nD) (ρ : Bool) (n : ℕ) : BI.Storable (upEmb : UEmb _ 𝕄) (freedTo (F := F) d ρ n) := by
  unfold freedTo freed; infer_instance

instance pay_storable (c : Dev nD) (i : CI) (r d : ℕ) : BI.Storable (upEmb : UEmb _ 𝕄) (pay X Y c i r d) :=
  match i with
  | .bar => freedTo_storable _ _ _
  | .cr _ => freedTo_storable _ _ _
  | .snd _ _ => sendSlot_storable _ _ _
  | .rcv _ _ _ => landed_storable _ _ _ _ _

instance Rd_payload_storable (g : GSem nD τ sig) (r : ℕ) (d : ℕ) : BI.Storable (upEmb : UEmb _ 𝕄) ((Rd X Y).payload g r d) := by
  show BI.Storable upEmb ((dec g.2).elim iprop(emp) (fun i => pay X Y g.1.1 i r d))
  cases dec g.2 <;> (dsimp only [Option.elim]; infer_instance)

theorem Rd_duties (c : Dev nD) (i : CI) (r : ℕ) : (Rd X Y).duties (cell c i) r = dut i r := by
  dsimp only [Rd]; rw [if_pos rfl, dec_csem]; rfl
theorem Rd_amount (c : Dev nD) (i : CI) (r d : ℕ) : (Rd X Y).amount (cell c i) r d = amt i := by
  dsimp only [Rd]; rw [dec_csem]; rfl
theorem Rd_payload (c : Dev nD) (i : CI) (r d : ℕ) : (Rd X Y).payload (cell c i) r d = pay X Y c i r d := by
  dsimp only [Rd]; rw [dec_csem]; rfl
theorem Rd_expect (c : Dev nD) (i : CI) (r : ℕ) : (Rd X Y).expect (cell c i) r = (dut i r).card * amt i := by
  unfold Schedule.expect Schedule.amountOf
  rw [Rd_duties, Finset.sum_congr rfl fun d _ => Rd_amount X Y c i r d, Finset.sum_const, smul_eq_mul]

/-! ## Levels -/

/-- Every cell of a device's core may be waited on under the indices below 20; -/
def L (g : GSem nD τ sig) : Finset ℕ := if g.1.2 = .tc then Finset.range 20 else ∅
/-- an index is its own level. -/
def lv (_ : GSem nD τ sig) (u : ℕ) : ℕ := u
theorem L_of_ne (g : GSem nD τ sig) (h : g.1.2 ≠ .tc) : L g = ∅ := if_neg h
theorem mem_L {g : GSem nD τ sig} {u : ℕ} (h : g.1.2 = .tc) (hu : u < 20) : u ∈ L g := by
  unfold L; rw [if_pos h]; exact Finset.mem_range.mpr hu

/-- Everything in `O` is owed to cores under indices above `k` and below 20. -/
def Above (k : ℕ) (O : CellTallies nD τ sig ℕ) : Prop := ∀ g u, 0 < O g u → g.1.2 = .tc ∧ k < u ∧ u < 20

theorem Above.zero (k : ℕ) : Above k 0 := fun g u h => absurd h (Nat.lt_irrefl 0)
theorem Above.add {k : ℕ} {O O' : CellTallies nD τ sig ℕ} (h : Above k O) (h' : Above k O') : Above k (O + O') := fun g u hg => by
  rw [Pi.add_apply, Finsupp.add_apply] at hg
  rcases Nat.eq_zero_or_pos (O g u) with h0 | h0
  · exact h' g u (by omega)
  · exact h g u h0
theorem Above.tally {k : ℕ} (c : Dev nD) (sm : SemLoc sig) (u n : ℕ) (h1 : k < u) (h2 : u < 20) :
    Above k (tallyAt ((c : Thread nD τ), sm) u n) := fun g u' hg => by
  rw [tallyAt_apply] at hg
  by_cases h : g = ((c : Thread nD τ), sm) ∧ u' = u
  · rw [h.1, h.2]; exact ⟨rfl, h1, h2⟩
  · rw [if_neg h] at hg; exact absurd hg (Nat.lt_irrefl 0)
theorem Above.mono {k k' : ℕ} (h : k' ≤ k) {O : CellTallies nD τ sig ℕ} (hO : Above k O) : Above k' O := fun g u hg => by
  obtain ⟨h1, h2, h3⟩ := hO g u hg; exact ⟨h1, by omega, h3⟩
theorem Above.sum {k : ℕ} {ι : Type} (s : Finset ι) (f : ι → CellTallies nD τ sig ℕ) (h : ∀ i ∈ s, Above k (f i)) :
    Above k (∑ i ∈ s, f i) := by
  classical
  induction s using Finset.induction_on with
  | empty => rw [Finset.sum_empty]; exact .zero k
  | insert a s ha ih =>
    rw [Finset.sum_insert ha]
    exact (h a (Finset.mem_insert_self _ _)).add (ih fun i hi => h i (Finset.mem_insert_of_mem hi))

omit [FloatOps F] in
/-- A device that owes only above `k` may wait under an index up to `k`. -/
theorem mayWait (c : Dev nD) (sm : SemLoc sig) {u k : ℕ} (hu : u ≤ k) (hk : k < 20) {O : CellTallies nD τ sig ℕ} (hO : Above k O) :
    (levAts L lv : sProp 𝕄) ⊢ MayWait (c : Thread nD τ) sm u O :=
  MayOwe.of_cut (L := L) (lev := lv) k (fun p hp => by rw [Finset.mem_singleton.mp hp]; exact mem_L rfl (by omega))
    (fun g u hg => mem_L (hO g u hg).1 (hO g u hg).2.2)
    (fun p hp => by rw [Finset.mem_singleton.mp hp]; exact hu)
    (fun g u hg => (hO g u hg).2.1)

/-! ## What a device owes -/

/-- The units of the copy of step `t` on ring `ρ` and half `j`. -/
abbrev itR (c : Dev nD) (ρ : Bool) (j : Fin 2) (t : ℕ) : CellTallies nD τ sig ℕ :=
  tallyAt (cell (dst ρ c) (.rcv ρ (ph (t + 1)) j)) (t + 2) N
/-- The credit of step `t` on ring `ρ`. -/
abbrev itC (c : Dev nD) (ρ : Bool) (t : ℕ) : CellTallies nD τ sig ℕ :=
  tallyAt (cell (src ρ c) (.cr ρ)) (t + 2) 1
/-- The unit a device owes the barrier cell of the neighbour its ring `ρ` copies come from. -/
abbrev itB (c : Dev nD) (ρ : Bool) : CellTallies nD τ sig ℕ := tallyAt (cell (src ρ c) .bar) 1 1

/-- The credits step `t` gives, if it gives any. -/
def crdO (c : Dev nD) (t : ℕ) : CellTallies nD τ sig ℕ :=
  if 1 ≤ t ∧ t ≤ 13 then itC c true t + itC c false t else 0
/-- Everything step `t` pays. -/
def stepO (c : Dev nD) (t : ℕ) : CellTallies nD τ sig ℕ :=
  (((crdO c t + itR c true 1 t) + itR c false 1 t) + itR c true 0 t) + itR c false 0 t
/-- Everything the steps from `s` on pay. -/
def owed (c : Dev nD) (s : ℕ) : CellTallies nD τ sig ℕ := ∑ t ∈ Finset.Ico s 15, stepO c t
/-- Everything a device pays. -/
def O₀ (c : Dev nD) : CellTallies nD τ sig ℕ := (owed c 0 + itB c true) + itB c false

theorem Ico_peel {a : ℕ} (h : a < 15) : Finset.Ico a 15 = insert a (Finset.Ico (a + 1) 15) := by
  ext x; simp only [Finset.mem_Ico, Finset.mem_insert]; omega
theorem not_mem_Ico (a : ℕ) : a ∉ Finset.Ico (a + 1) 15 := by simp only [Finset.mem_Ico]; omega
theorem owed_succ (c : Dev nD) {s : ℕ} (h : s < 15) : owed c s = owed c (s + 1) + stepO c s := by
  unfold owed; rw [Ico_peel h, Finset.sum_insert (not_mem_Ico s), add_comm]
theorem owed_last (c : Dev nD) : owed c 15 = 0 := by unfold owed; rw [Finset.Ico_self, Finset.sum_empty]

theorem above_crdO (c : Dev nD) {k t : ℕ} (h : k < t + 2) : Above k (crdO c t) := by
  unfold crdO
  split
  · exact (Above.tally _ _ _ _ h (by omega)).add (Above.tally _ _ _ _ h (by omega))
  · exact .zero k
theorem above_stepO (c : Dev nD) {k t : ℕ} (h : k < t + 2) (ht : t < 15) : Above k (stepO c t) :=
  ((((above_crdO c h).add (Above.tally _ _ _ _ h (by omega))).add (Above.tally _ _ _ _ h (by omega))).add
    (Above.tally _ _ _ _ h (by omega))).add (Above.tally _ _ _ _ h (by omega))
theorem above_owed (c : Dev nD) (s : ℕ) : Above (s + 1) (owed c s) :=
  Above.sum _ _ fun t ht => above_stepO c (by have := Finset.mem_Ico.mp ht; omega) (Finset.mem_Ico.mp ht).2
theorem above_O₀ (c : Dev nD) : Above 0 (O₀ c) :=
  (((above_owed c 0).mono (by omega)).add (Above.tally _ _ _ _ (by omega) (by omega))).add (Above.tally _ _ _ _ (by omega) (by omega))

end Cert.RingProof

end
-- ==== Proof.Hops.lean ====
/-
# The moves: copy, take, credit

Each move of the ring is proved once, for any device, ring, half and step: starting a copy (`wp_sendP`), taking what has
landed (`wp_takeP`), forming a partial product (`wp_partP`), waiting for a credit and giving one.
-/
module

public import proofs.«01_k».proof.Proof.Protocol
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a program on device `c`'s core. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (X : Dev nD → (cc0_stg0_0 : Ref sig .tc).ty.Contents (Elt F))
variable (Y : Dev nD → (cc0_stg1_0 : Ref sig .tc).ty.Contents (Elt F))

/-! ## Slots as views -/

theorem set_send (ρ : Bool) (j : Fin 2) : ((sendM ρ).access (rS j)).set = (sendV ρ j).view.set := (View.set_reshape _ _).symm
theorem set_recv (ρ : Bool) (q j : Fin 2) : ((recvM ρ).access (rR q j)).set = (recvV ρ q j).view.set := (View.set_reshape _ _).symm
theorem recv_nonempty (ρ : Bool) (q j : Fin 2) : (recvV ρ q j).view.set.Nonempty := View.set_nonempty (by decide)

/-- What the store of `v` into a send slot leaves there, read as a matrix, is `v`. -/
theorem read_sent (ρ : Bool) (j : Fin 2) (f : (sendM ρ).view.ty.Contents (Elt F)) (v : FVec F S256x2048 .f32) :
    (sendV ρ j).view.read (Elt F) (((sendM ρ).access (rS j)).write (Elt F) f (up v) Finset.univ) = v := by
  have h : (sendV ρ j).view.read (Elt F) (((sendM ρ).access (rS j)).write (Elt F) f (up v) Finset.univ)
      = shapeCast S256x2048 (((sendM ρ).access (rS j)).read (Elt F) (((sendM ρ).access (rS j)).write (Elt F) f (up v) Finset.univ))
          shapeCasts_S1x256x2048_S256x2048 := rfl
  rw [h, View.read_write_univ]
  exact shapeCast_shapeCast v _ _

/-- A landing slot, loaded and reshaped, is the slot read as a matrix. -/
theorem down_read (ρ : Bool) (q j : Fin 2) (f : (recvM ρ).view.ty.Contents (Elt F)) :
    down ((recvM ρ).view.readAt (Elt F) (rR q j).toLoadRect f) = (recvV ρ q j).view.read (Elt F) f := rfl

omit [FloatOps F] in
theorem recvSlot_false (c : Dev nD) (ρ : Bool) (q j : Fin 2) :
    iprop(recvSlot (F := F) c ρ q j ∗ recvSlot c ρ q j) ⊢ (False : sProp 𝕄) :=
  Release.slot_slot_false (recv_nonempty ρ q j)

/-! ## The invariants -/

/-- The names of all uses of landing slots. -/
def keys : Finset SK := Finset.univ ×ˢ Finset.univ ×ˢ Finset.univ ×ˢ Finset.range 15
theorem mem_keys (d : Dev nD) (ρ : Bool) (j : Fin 2) {s : ℕ} (h : s < 15) : ((d, ρ, j, s) : SK) ∈ keys := by
  simp only [keys, Finset.mem_product, Finset.mem_univ, true_and, Finset.mem_range]; exact h
/-- The slot a name is a use of. -/
def keySlot (k : SK) : sProp 𝕄 := recvSlot (F := F) k.1 k.2.1 (ph (k.2.2.2 + 1)) k.2.2.1

omit [FloatOps F] in
instance keySlot_storable (k : SK) : BI.Storable (upEmb : UEmb _ 𝕄) (keySlot (F := F) k) := recvSlot_storable _ _ _ _

variable (κ : Dev nD × CI → ℕ) (ν : SK → ℕ)

/-- Every cell's invariant and its first round's mark, every slot's invariant, and the levels. -/
def ctx : sProp 𝕄 :=
  iprop(bigSep Finset.univ (fun x : Dev nD × CI => cellInv ER (Rd X Y) (κ x) (cell x.1 x.2))
    ∗ bigSep keys (fun k => Release.slotInv ES (ν k) k (keySlot (F := F) k))
    ∗ bigSep Finset.univ (fun x : Dev nD × CI => reached ER (cell x.1 x.2) 0) ∗ levAts L lv)

instance ctx_persistent : BI.Persistent (ctx X Y κ ν) := by unfold ctx; infer_instance

theorem ctx_cell (c : Dev nD) (i : CI) : ctx X Y κ ν ⊢ cellInv ER (Rd X Y) (κ (c, i)) (cell c i) := by
  unfold ctx
  iintro ⟨H, -, -⟩
  ihave H := (bigSep_pick (Finset.mem_univ ((c, i) : Dev nD × CI))) $$ H
  icases H with ⟨H, -⟩
  iexact H
theorem ctx_slot (k : SK) (h : k ∈ keys) : ctx X Y κ ν ⊢ Release.slotInv ES (ν k) k (keySlot (F := F) k) := by
  unfold ctx
  iintro ⟨-, H, -⟩
  ihave H := (bigSep_pick h) $$ H
  icases H with ⟨H, -⟩
  iexact H
theorem ctx_reached (c : Dev nD) (i : CI) : ctx X Y κ ν ⊢ reached ER (cell c i) 0 := by
  unfold ctx
  iintro ⟨-, -, H, -⟩
  ihave H := (bigSep_pick (Finset.mem_univ ((c, i) : Dev nD × CI))) $$ H
  icases H with ⟨H, -⟩
  iexact H
theorem ctx_mayWait (c : Dev nD) (sm : SemLoc sig) {u : ℕ} (hu : u < 20) {O : CellTallies nD τ sig ℕ} (hO : Above u O) :
    ctx X Y κ ν ⊢ MayWait (c : Thread nD τ) sm u O := by
  unfold ctx
  iintro ⟨-, -, -, H⟩
  iapply (mayWait c sm (Nat.le_refl u) hu hO)
  iexact H

/-! ## Decks -/

omit [FloatOps F] in
theorem deck_peel {a : ℕ} (h : a < 15) (Φ : ℕ → sProp 𝕄) :
    bigSep (Finset.Ico a 15) Φ ⊢ iprop(Φ a ∗ bigSep (Finset.Ico (a + 1) 15) Φ) :=
  Entails.of_eq (by rw [Ico_peel h, bigSep_insert (not_mem_Ico a)]; rfl)

/-- What a device needs for its copies from step `s` on, on ring `ρ` and half `j`. -/
def deckA (c : Dev nD) (ρ : Bool) (j : Fin 2) (s : ℕ) : sProp 𝕄 :=
  bigSep (Finset.Ico s 15) fun t =>
    iprop(dutyTok ER (cell c (.snd ρ j)) t 0 ∗ dutyTok ER (cell (dst ρ c) (.rcv ρ (ph (t + 1)) j)) (t / 2) 0
      ∗ Release.writeTok ES (dst ρ c, ρ, j, t) 1)
/-- The units it will be paid for the copies into it from step `s` on. -/
def deckB (c : Dev nD) (ρ : Bool) (j : Fin 2) (s : ℕ) : sProp 𝕄 :=
  bigSep (Finset.Ico s 15) fun t => cred (tallyAt (cell c (.rcv ρ (ph (t + 1)) j)) (t + 2) N)
/-- Its right to free its landing slots for the copies from step `s` on. -/
def deckR (c : Dev nD) (ρ : Bool) (j : Fin 2) (s : ℕ) : sProp 𝕄 :=
  bigSep (Finset.Ico s 15) fun t => Release.readerAt ES (c, ρ, j, t) 0

/-- The state of a ring's half after its copy of step `n` has started. -/
def core (c : Dev nD) (ρ : Bool) (j : Fin 2) (n : ℕ) : sProp 𝕄 :=
  iprop(atPos ER (cell c (.snd ρ j)) n ∅ 0 ∗ cred (tallyAt (cell c (.snd ρ j)) 0 N)
    ∗ atPos ER (cell c (.rcv ρ (ph (n + 1)) j)) (n / 2) ∅ 0 ∗ atPos ER (cell c (.rcv ρ (ph n) j)) ((n + 1) / 2) ∅ 0
    ∗ deckA c ρ j (n + 1) ∗ deckB c ρ j n)
/-- The state of a ring's half once it has taken what step `n`'s copy into it landed. -/
def taken (c : Dev nD) (ρ : Bool) (j : Fin 2) (n : ℕ) : sProp 𝕄 :=
  iprop(atPos ER (cell c (.snd ρ j)) (n + 1) ∅ 0 ∗ reached ER (cell c (.snd ρ j)) (n + 1) ∗ sendSlot c ρ j
    ∗ atPos ER (cell c (.rcv ρ (ph (n + 1)) j)) (n / 2 + 1) ∅ 0 ∗ reached ER (cell c (.rcv ρ (ph (n + 1)) j)) (n / 2 + 1)
    ∗ recvSlot c ρ (ph (n + 1)) j
    ∗ atPos ER (cell c (.rcv ρ (ph n) j)) ((n + 1) / 2) ∅ 0
    ∗ deckA c ρ j (n + 1) ∗ deckB c ρ j (n + 1))

/-! ## Starting a copy -/

theorem wpc_ret {α : Type} (c : Dev nD) (a : α) (Q : α → sProp 𝕄) : Q a ⊢ wpc c (.ret a) Q := by
  unfold wpc
  rw [wp_ret]
  iintro H
  imodintro
  iexact H

theorem mem_snd (c : Dev nD) (ρ : Bool) (j : Fin 2) {s : ℕ} (hs : s < 15) : 0 ∈ (Rd X Y).duties (cell c (.snd ρ j)) s := by
  rw [Rd_duties]; simp only [dut]; rw [if_pos hs]; exact Finset.mem_singleton_self _
theorem mem_rcv (c : Dev nD) (ρ : Bool) (j : Fin 2) {s : ℕ} (hs : s < 15) :
    0 ∈ (Rd X Y).duties (cell c (.rcv ρ (ph (s + 1)) j)) (s / 2) := by
  rw [Rd_duties]; simp only [dut]; rw [if_pos (by rw [sendOf_ph]; exact hs)]; exact Finset.mem_singleton_self _

/-- The copy of step `s` on ring `ρ` and half `j`, addressed to `n = dst ρ c`. -/
theorem wp_copy (c n : Dev nD) (ρ : Bool) (j q : Fin 2) (hn : n = dst ρ c) {s : ℕ} (hq : q = ph (s + 1)) (hs : s < 15)
    {hsc : (recvV ρ q j : Memref sig (Dev.tc n : Thread nD τ).2.kind .vmem S256x2048 .f32).view.ref.isScScratch = false}
    {hsrc : (sendV ρ j).view.WordExact} {hdst : (recvV ρ q j : Memref sig .tc .vmem S256x2048 .f32).view.WordExact}
    {hsem : DmaTarget.Typed .vmem (.dma (rcvS ρ q j)) (.remote (Dev.tc n : Thread nD τ) (recvV ρ q j : Memref sig .tc .vmem S256x2048 .f32) (.dma (sndS ρ j)) hsc)}
    {α : Type} {Q : α → sProp 𝕄} {k : PUnit → Prog (TpuEff nD τ sig (Elt F) Λ₀ .tc) α}
    (fs : Buf (Elt F) ((sendV ρ j).view.loc (c : Thread nD τ))) (fd : Buf (Elt F) ((recvV ρ (ph (s + 1)) j).view.loc (dst ρ c : Thread nD τ)))
    (hv : (sendV ρ j).view.read (Elt F) fs = val X Y ρ j s c)
    {O₁ : CellTallies nD τ sig ℕ} (O : CellTallies nD τ sig ℕ) (hO : O₁ = O + itR c ρ j s) (W : Waits sig ℕ) :
    iprop(cellInv ER (Rd X Y) (κ (c, .snd ρ j)) (cell c (.snd ρ j))
        ∗ cellInv ER (Rd X Y) (κ (dst ρ c, .rcv ρ (ph (s + 1)) j)) (cell (dst ρ c) (.rcv ρ (ph (s + 1)) j))
        ∗ sendPts c ρ j fs ∗ recvPts (dst ρ c) ρ (ph (s + 1)) j fd
        ∗ owes (c : Thread nD τ) O₁ W
        ∗ dutyTok ER (cell c (.snd ρ j)) s 0 ∗ reached ER (cell c (.snd ρ j)) s
        ∗ dutyTok ER (cell (dst ρ c) (.rcv ρ (ph (s + 1)) j)) (s / 2) 0 ∗ reached ER (cell (dst ρ c) (.rcv ρ (ph (s + 1)) j)) (s / 2))
      ⊢ iprop(((cred (tallyAt (cell c (.snd ρ j)) 0 N) ∗ owes (c : Thread nD τ) O W) -∗ wpc c (k ⟨⟩) Q)
          -∗ wpc c (.op (.enqueueDma (sendV ρ j) (.remote (Dev.tc n : Thread nD τ) (recvV ρ q j) (.dma (sndS ρ j)) hsc) (.dma (rcvS ρ q j)) hsrc hdst hsem) k) Q) := by
  subst hn; subst hq
  unfold sendPts recvPts
  exact Rounds.wp_send_pointsTo 𝒱₀ ER (Rd X Y) (c : Thread nD τ) none (κ₁ := κ (c, .snd ρ j)) (κ₂ := κ (dst ρ c, .rcv ρ (ph (s + 1)) j))
    (r₁ := s) (r₂ := s / 2) (d₁ := 0) (d₂ := 0) (fd := fd)
    (mem_snd X Y c ρ j hs) (mem_rcv X Y (dst ρ c) ρ j hs)
    (s + 2) 0 N (by exact recv_credit ρ _ j) (Rd_amount X Y c (.snd ρ j) s 0) (Rd_amount X Y (dst ρ c) (.rcv ρ (ph (s + 1)) j) (s / 2) 0) O hO (W := W)
    ((show _ ⊢ sendSlot c ρ j by
        unfold sendSlot sendPts; iintro H; iexists fs; iexact H).trans
      (Entails.of_eq (Rd_payload X Y c (.snd ρ j) s 0).symm))
    ((show _ ⊢ landed (dst ρ c) ρ (ph (s + 1)) j (val X Y ρ j (sendOf (ph (s + 1)) (s / 2)) (src ρ (dst ρ c))) by
        unfold landed recvPts
        iintro H
        iexists ((recvV ρ (ph (s + 1)) j).view.write (Elt F) fd ((sendV ρ j).view.read (Elt F) fs) Finset.univ)
        isplitr
        · ipureintro; rw [View.read_write_univ, hv, sendOf_ph, src_dst]
        · iexact H).trans
      (Entails.of_eq (Rd_payload X Y (dst ρ c) (.rcv ρ (ph (s + 1)) j) (s / 2) 0).symm))

/-- Put a running sum into the send slot and start its copy. -/
theorem wp_sendP (c : Dev nD) (ρ : Bool) (j q : Fin 2) {s : ℕ} (hq : q = ph (s + 1)) (hs : s < 15) (v : FVec F S256x2048 .f32)
    (hv : v = val X Y ρ j s c) {O₁ : CellTallies nD τ sig ℕ} (O : CellTallies nD τ sig ℕ) (hO : O₁ = O + itR c ρ j s)
    (Q : PUnit → sProp 𝕄) :
    iprop(ctx X Y κ ν ∗ sendSlot c ρ j ∗ reached ER (cell c (.snd ρ j)) s ∗ deckA c ρ j s ∗ freed (dst ρ c) ρ s
        ∗ (∃ W, owes (c : Thread nD τ) O₁ W)
        ∗ ((cred (tallyAt (cell c (.snd ρ j)) 0 N) ∗ deckA c ρ j (s + 1) ∗ (∃ W, owes (c : Thread nD τ) O W)) -∗ Q ⟨⟩))
      ⊢ wpc c (sendP ρ j q c v) Q := by
  simp only [sendP, Prog.lift, Prog.bind_op, Prog.bind_ret, Prog.pure_eq_ret]
  unfold sendSlot
  iintro ⟨#Hctx, ⟨%f, Hs⟩, #Hr, HA, #Hf, ⟨%W, HO⟩, HQ⟩
  unfold deckA
  ihave HA := (deck_peel hs _) $$ HA
  icases HA with ⟨⟨Ht1, Ht2, Hw⟩, HA⟩
  unfold freed
  ihave Hf2 := (bigSep_pick (Finset.mem_univ j)) $$ Hf
  icases Hf2 with ⟨⟨#Hrel, #Hrr⟩, -⟩
  unfold sendPts
  iapply (wp_load_rect 𝒱₀ (c : Thread nD τ) none Set.univ (subset_of_eq (set_send ρ j))) $$ Hs
  iintro Hs
  iapply (wp_store 𝒱₀ (c : Thread nD τ) none Set.univ (subset_of_eq (set_send ρ j))) $$ Hs
  iintro Hs
  imod (Release.slot_take (S := keySlot (dst ρ c, ρ, j, s)) (ι := ν (dst ρ c, ρ, j, s)) ES (Set.mem_univ _) 1) $$ [Hw] with Hslot
  · isplitr; · iapply (ctx_slot X Y κ ν _ (mem_keys _ _ _ hs)); iexact Hctx
    isplitr; · iexact Hrel
    iexact Hw
  unfold keySlot recvSlot
  icases Hslot with ⟨%fd, Hd⟩
  iapply (wp_copy X Y κ c _ ρ j q (peer_eq ρ c) hq hs _ fd ((read_sent ρ j f v).trans hv) O hO W) $$ [Hs Hd HO Ht1 Ht2]
  · isplitr; · iapply (ctx_cell X Y κ ν); iexact Hctx
    isplitr; · iapply (ctx_cell X Y κ ν); iexact Hctx
    isplitl [Hs]; · unfold sendPts; iexact Hs
    isplitl [Hd]; · iexact Hd
    isplitl [HO]; · iexact HO
    isplitl [Ht1]; · iexact Ht1
    isplitr; · iexact Hr
    isplitl [Ht2]; · iexact Ht2
    iexact Hrr
  iintro ⟨Hc, HO⟩
  iapply (wpc_ret c _ Q)
  iapply HQ
  isplitl [Hc]; · iexact Hc
  isplitl [HA]; · iexact HA
  iexists W; iexact HO

/-! ## Taking what has landed -/

theorem dut_snd (ρ : Bool) (j : Fin 2) {n : ℕ} (h : n < 15) : dut (.snd ρ j) n = {0} := by simp only [dut]; rw [if_pos h]
theorem dut_rcv (ρ : Bool) (j : Fin 2) {n : ℕ} (h : n < 15) : dut (.rcv ρ (ph (n + 1)) j) (n / 2) = {0} := by
  simp only [dut]; rw [if_pos (by rw [sendOf_ph]; exact h)]

/-- A wait for the whole of a round of the device's own cell, under an index below everything it owes. -/
theorem wp_whole (c : Dev nD) (i : CI) (r u : ℕ) {w : TpuEff nD τ sig (Elt F) Λ₀ .tc PUnit} {k' : ℕ}
    (hw : ∀ K : PUnit → sProp 𝕄, wpE (defs₀ (F := F)) 𝒱₀ (c : Thread nD τ) none Set.univ w K = waitSpec (c : Thread nD τ) Set.univ (csem i) k' K)
    (hk : k' = (dut i r).card * amt i) {O : CellTallies nD τ sig ℕ} (hu : u < 20) (hO : Above u O)
    {α : Type} {Q : α → sProp 𝕄} {k : PUnit → Prog (TpuEff nD τ sig (Elt F) Λ₀ .tc) α} (W : Waits sig ℕ) :
    iprop(ctx X Y κ ν ∗ cred (tallyAt (cell c i) u k') ∗ owes (c : Thread nD τ) O W ∗ atPos ER (cell c i) r ∅ 0)
      ⊢ iprop(((∃ W', owes (c : Thread nD τ) O W') ∗ atPos ER (cell c i) (r + 1) ∅ 0 ∗ reached ER (cell c i) (r + 1)
          ∗ bigSep (dut i r) (fun d => pay X Y c i r d) -∗ wpc c (k ⟨⟩) Q) -∗ wpc c (.op w k) Q) := by
  iintro ⟨#Hctx, Hc, HO, Hat⟩ Hk
  iapply (Rounds.wp_wait_rest_token 𝒱₀ ER (Rd X Y) (c : Thread nD τ) none (κ := κ (c, i)) hw (Set.mem_univ _) u (O := O) (W := W)
      (R := r) (m := 0) (T := ∅) ((Nat.zero_add _).trans (hk.trans (Rd_expect X Y c i r).symm))) $$ [Hc HO Hat]
  · isplitr; · iapply (ctx_cell X Y κ ν c i); iexact Hctx
    isplitl [Hc]; · iexact Hc
    isplitl [HO]; · iexact HO
    isplitr; · iapply (ctx_mayWait X Y κ ν c (csem i) hu hO); iexact Hctx
    iexact Hat
  iintro ⟨HO, Hat, Hr, Hpay⟩
  iapply Hk
  isplitl [HO]; · iexists _; iexact HO
  isplitl [Hat]; · iexact Hat
  isplitl [Hr]; · iexact Hr
  ihave Hpay := (Entails.of_eq (show _ = bigSep (dut i r) (fun d => pay X Y c i r d) by
    rw [Finset.sdiff_empty, Rd_duties X Y c i]; exact bigSep_congr fun d _ => Rd_payload X Y c i r d)) $$ Hpay
  iexact Hpay

/-- The wait for a copy out of a send slot: the slot is back. -/
theorem wp_waitS (c : Dev nD) (ρ : Bool) (j : Fin 2) {n : ℕ} (hn : n < 15) {O : CellTallies nD τ sig ℕ} (hO : Above 0 O)
    {sp : Space} {s : Shape} {e : EltTy} {m : Memref sig .tc sp s e} {hsrc : m.view.WordExact} {hdst : (sendV ρ j).view.WordExact}
    {α : Type} {Q : α → sProp 𝕄} {k : PUnit → Prog (TpuEff nD τ sig (Elt F) Λ₀ .tc) α} :
    iprop(ctx X Y κ ν ∗ cred (tallyAt (cell c (.snd ρ j)) 0 N) ∗ (∃ W, owes (c : Thread nD τ) O W) ∗ atPos ER (cell c (.snd ρ j)) n ∅ 0)
      ⊢ iprop(((∃ W, owes (c : Thread nD τ) O W) ∗ atPos ER (cell c (.snd ρ j)) (n + 1) ∅ 0 ∗ reached ER (cell c (.snd ρ j)) (n + 1)
          ∗ sendSlot c ρ j -∗ wpc c (k ⟨⟩) Q) -∗ wpc c (.op (.waitDma2 (sndS ρ j) m (sendV ρ j) hsrc hdst) k) Q) := by
  iintro ⟨#Hctx, Hc, ⟨%W, HO⟩, Hat⟩ Hk
  iapply (wp_whole X Y κ ν c (.snd ρ j) n 0 (w := .waitDma2 (sndS ρ j) m (sendV ρ j) hsrc hdst) (k' := N)
    (fun K => (wpE_waitDma2_eq 𝒱₀ (c : Thread nD τ) none Set.univ K).trans (by rw [send_credit ρ j]; rfl))
    (by rw [dut_snd ρ j hn, Finset.card_singleton, Nat.one_mul]; rfl) (by omega) hO W) $$ [Hc HO Hat]
  · isplitr; · iexact Hctx
    isplitl [Hc]; · iexact Hc
    isplitl [HO]; · iexact HO
    iexact Hat
  iintro ⟨HO, Hat, Hr, Hpay⟩
  iapply Hk
  isplitl [HO]; · iexact HO
  isplitl [Hat]; · iexact Hat
  isplitl [Hr]; · iexact Hr
  ihave Hpay := (Entails.of_eq (show bigSep (dut (.snd ρ j) n) (fun d => pay X Y c (.snd ρ j) n d) = sendSlot c ρ j by
    rw [dut_snd ρ j hn, bigSep_singleton]; rfl)) $$ Hpay
  iexact Hpay

/-- The wait for the landing of step `n`'s copy: the landing slot, holding the sender's running sum. -/
theorem wp_waitR (c : Dev nD) (ρ : Bool) (j : Fin 2) {n : ℕ} (hn : n < 15) {O : CellTallies nD τ sig ℕ} (hO : Above (n + 2) O)
    {sp : Space} {s : Shape} {e : EltTy} {m : Memref sig .tc sp s e} {hsrc : m.view.WordExact} {hdst : (recvV ρ (ph (n + 1)) j).view.WordExact}
    {α : Type} {Q : α → sProp 𝕄} {k : PUnit → Prog (TpuEff nD τ sig (Elt F) Λ₀ .tc) α} :
    iprop(ctx X Y κ ν ∗ cred (tallyAt (cell c (.rcv ρ (ph (n + 1)) j)) (n + 2) N) ∗ (∃ W, owes (c : Thread nD τ) O W)
        ∗ atPos ER (cell c (.rcv ρ (ph (n + 1)) j)) (n / 2) ∅ 0)
      ⊢ iprop(((∃ W, owes (c : Thread nD τ) O W) ∗ atPos ER (cell c (.rcv ρ (ph (n + 1)) j)) (n / 2 + 1) ∅ 0
          ∗ reached ER (cell c (.rcv ρ (ph (n + 1)) j)) (n / 2 + 1)
          ∗ landed c ρ (ph (n + 1)) j (val X Y ρ j n (src ρ c)) -∗ wpc c (k ⟨⟩) Q)
          -∗ wpc c (.op (.waitDma2 (rcvS ρ (ph (n + 1)) j) m (recvV ρ (ph (n + 1)) j) hsrc hdst) k) Q) := by
  iintro ⟨#Hctx, Hc, ⟨%W, HO⟩, Hat⟩ Hk
  iapply (wp_whole X Y κ ν c (.rcv ρ (ph (n + 1)) j) (n / 2) (n + 2) (w := .waitDma2 (rcvS ρ (ph (n + 1)) j) m (recvV ρ (ph (n + 1)) j) hsrc hdst) (k' := N)
    (fun K => (wpE_waitDma2_eq 𝒱₀ (c : Thread nD τ) none Set.univ K).trans (by rw [recv_credit ρ (ph (n + 1)) j]; rfl))
    (by rw [dut_rcv ρ j hn, Finset.card_singleton, Nat.one_mul]; rfl) (by omega) hO W) $$ [Hc HO Hat]
  · isplitr; · iexact Hctx
    isplitl [Hc]; · iexact Hc
    isplitl [HO]; · iexact HO
    iexact Hat
  iintro ⟨HO, Hat, Hr, Hpay⟩
  iapply Hk
  isplitl [HO]; · iexact HO
  isplitl [Hat]; · iexact Hat
  isplitl [Hr]; · iexact Hr
  ihave Hpay := (Entails.of_eq (show bigSep (dut (.rcv ρ (ph (n + 1)) j) (n / 2)) (fun d => pay X Y c (.rcv ρ (ph (n + 1)) j) (n / 2) d)
      = landed c ρ (ph (n + 1)) j (val X Y ρ j n (src ρ c)) by
    rw [dut_rcv ρ j hn, bigSep_singleton]; simp only [pay]; rw [sendOf_ph])) $$ Hpay
  iexact Hpay

/-- Wait for the send slot and for the landing of step `n`'s copy, and read it. -/
theorem wp_takeP (c : Dev nD) (ρ : Bool) (j q : Fin 2) {n : ℕ} (hq : q = ph (n + 1)) (hn : n < 15)
    {O : CellTallies nD τ sig ℕ} (hO : Above (n + 2) O) (Q : Vec F S1x1x256x2048 .f32 → sProp 𝕄) :
    iprop(ctx X Y κ ν ∗ core c ρ j n ∗ (∃ W, owes (c : Thread nD τ) O W)
        ∗ (∀ v, (⌜down v = val X Y ρ j n (src ρ c)⌝ ∗ taken c ρ j n ∗ (∃ W, owes (c : Thread nD τ) O W)) -∗ Q v))
      ⊢ wpc c (takeP ρ j q) Q := by
  subst hq
  simp only [takeP, Prog.lift, Prog.bind_op, Prog.bind_ret, Prog.pure_eq_ret]
  unfold core
  iintro ⟨#Hctx, ⟨HatS, HcS, HatR, HatR', HA, HB⟩, HO, HQ⟩
  iapply (wp_waitS X Y κ ν c ρ j hn (hO.mono (Nat.zero_le _))) $$ [HcS HO HatS]
  · isplitr; · iexact Hctx
    isplitl [HcS]; · iexact HcS
    isplitl [HO]; · iexact HO
    iexact HatS
  iintro ⟨HO, HatS, #HrS, Hs⟩
  unfold deckB
  ihave HB := (deck_peel hn _) $$ HB
  icases HB with ⟨HcR, HB⟩
  iapply (wp_waitR X Y κ ν c ρ j hn hO) $$ [HcR HO HatR]
  · isplitr; · iexact Hctx
    isplitl [HcR]; · iexact HcR
    isplitl [HO]; · iexact HO
    iexact HatR
  iintro ⟨HO, HatR, #HrR, Hl⟩
  unfold landed recvPts
  icases Hl with ⟨%f, %hf, Hl⟩
  iapply (wp_load_rect 𝒱₀ (c : Thread nD τ) none Set.univ (subset_of_eq (set_recv ρ (ph (n + 1)) j))) $$ Hl
  iintro Hl
  iapply (wpc_ret c _ Q)
  iapply HQ
  isplitr; · ipureintro; exact (down_read ρ (ph (n + 1)) j f).trans hf
  isplitr [HO]
  · unfold taken
    isplitl [HatS]; · iexact HatS
    isplitr; · iexact HrS
    isplitl [Hs]; · iexact Hs
    isplitl [HatR]; · iexact HatR
    isplitr; · iexact HrR
    isplitl [Hl]; · unfold recvSlot recvPts; iexists f; iexact Hl
    isplitl [HatR']; · iexact HatR'
    isplitl [HA]; · iexact HA
    unfold deckB; iexact HB
  iexact HO

/-! ## A hop -/

/-- What one hop leaves besides the state of its half: the landing slot it has read, and its cell's progress. -/
def read (c : Dev nD) (ρ : Bool) (j : Fin 2) (n : ℕ) : sProp 𝕄 :=
  iprop(recvSlot c ρ (ph (n + 1)) j ∗ reached ER (cell c (.rcv ρ (ph (n + 1)) j)) (n / 2 + 1))

theorem ph_succ2 (n : ℕ) : ph (n + 1 + 1) = ph n := ph_add_two n

/-- The hop of step `n + 1`. -/
theorem wp_hopP (c : Dev nD) (ρ : Bool) (j q q' : Fin 2) {n : ℕ} (hq : q = ph (n + 1)) (hq' : q' = ph (n + 1 + 1)) (hn : n + 1 < 15)
    (p : FVec F S256x4096 .f32) (hp : p = prt X Y ρ c (n + 1))
    {O₁ : CellTallies nD τ sig ℕ} (hO₁ : Above (n + 2) O₁) (O : CellTallies nD τ sig ℕ) (hO : O₁ = O + itR c ρ j (n + 1)) (Q : PUnit → sProp 𝕄) :
    iprop(ctx X Y κ ν ∗ core c ρ j n ∗ freed (dst ρ c) ρ (n + 1) ∗ (∃ W, owes (c : Thread nD τ) O₁ W)
        ∗ ((core c ρ j (n + 1) ∗ read c ρ j n ∗ (∃ W, owes (c : Thread nD τ) O W)) -∗ Q ⟨⟩))
      ⊢ wpc c (hopP ρ j q q' c p) Q := by
  unfold hopP wpc
  rw [wp_bind]
  iintro ⟨#Hctx, Hcore, #Hf, HO, HQ⟩
  iapply (wp_takeP X Y κ ν c ρ j q hq (by omega) hO₁)
  isplitr; · iexact Hctx
  isplitl [Hcore]; · iexact Hcore
  isplitl [HO]; · iexact HO
  iintro %v ⟨%hv, Ht, HO⟩
  unfold taken
  icases Ht with ⟨HatS, #HrS, Hs, HatR, #HrR, Hl, HatR', HA, HB⟩
  iapply (wp_sendP X Y κ ν c ρ j q' hq' hn _ (by rw [hv, hp]; rfl) O hO)
  isplitr; · iexact Hctx
  isplitl [Hs]; · iexact Hs
  isplitr; · iexact HrS
  isplitl [HA]; · iexact HA
  isplitr; · iexact Hf
  isplitl [HO]; · iexact HO
  iintro ⟨Hc, HA, HO⟩
  iapply HQ
  isplitr [Hl HO]
  · unfold core
    rw [ph_succ2, show (n + 1 + 1) / 2 = n / 2 + 1 by omega]
    isplitl [HatS]; · iexact HatS
    isplitl [Hc]; · iexact Hc
    isplitl [HatR']; · iexact HatR'
    isplitl [HatR]; · iexact HatR
    isplitl [HA]; · iexact HA
    iexact HB
  isplitl [Hl]
  · unfold read; isplitl; · iexact Hl
    iexact HrR
  iexact HO

/-! ## The partial products -/

/-- A device's staged operands. -/
def stgs (c : Dev nD) : sProp 𝕄 :=
  iprop(((c : Thread nD τ).loc cc0_stg0_0 ↦{fullShare} X c) ∗ ((c : Thread nD τ).loc cc0_stg1_0 ↦{fullShare} Y c))

theorem wp_partP (c : Dev nD) (ρ : Bool) (i : Fin 16) {s : ℕ} (hi : i = Fin.ofNat 16 s) (Q : FVec F S256x4096 .f32 → sProp 𝕄) :
    iprop(stgs X Y c ∗ (stgs X Y c -∗ Q (prt X Y ρ c s)))
      ⊢ wpc c (partP (Memref.whole cc0_stg0_0) (Memref.whole cc0_stg1_0) ρ c i) Q := by
  subst hi
  simp only [partP, Prog.lift, Prog.bind_op, Prog.bind_ret, Prog.pure_eq_ret]
  unfold stgs prt
  iintro ⟨⟨Hx, Hw⟩, HQ⟩
  iapply (wp_load 𝒱₀ (c : Thread nD τ) none Set.univ (m := (Memref.whole cc0_stg0_0 : Memref sig .tc .vmem S4096x256 .f32)) (Finset.subset_univ _)) $$ Hx
  iintro Hx
  iapply (wp_load 𝒱₀ (c : Thread nD τ) none Set.univ (m := (Memref.whole cc0_stg1_0 : Memref sig .tc .vmem S256x8192 .f32)) (Finset.subset_univ _)) $$ Hw
  iintro Hw
  iapply (wpc_ret c _ Q)
  iapply HQ
  isplitl [Hx]; · iexact Hx
  iexact Hw

end Cert.RingProof

end
-- ==== Proof.Credits.lean ====
/-
# Credits

A ring's credit cell has one round of thirteen units. Its owner takes them one at a time: after `i` of them at least
`i` have arrived, so one numbered at least `i` has, and that one says the slots for the copies up to `i + 1` are free
(`wp_credit`). The other side frees a step's landing slots (`free_step`) and gives the unit (`wp_give`).
-/
module

public import proofs.«01_k».proof.Proof.Hops

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F))
variable (Y : Dev nD → (cc0_stg1_0 : Ref sig .tc).ty.Contents (Elt F))
variable (κ : Dev nD × CI → ℕ) (ν : SK → ℕ)

/-! ## Taking a credit -/

theorem Ico14_peel {a : ℕ} (h : a < 14) : Finset.Ico a 14 = insert a (Finset.Ico (a + 1) 14) := by
  ext x; simp only [Finset.mem_Ico, Finset.mem_insert]; omega
theorem not_mem_Ico14 (a : ℕ) : a ∉ Finset.Ico (a + 1) 14 := by simp only [Finset.mem_Ico]; omega
omit [FloatOps F] in
theorem deck14_peel {a : ℕ} (h : a < 14) (Φ : ℕ → sProp 𝕄) :
    bigSep (Finset.Ico a 14) Φ ⊢ iprop(Φ a ∗ bigSep (Finset.Ico (a + 1) 14) Φ) :=
  Entails.of_eq (by rw [Ico14_peel h, bigSep_insert (not_mem_Ico14 a)]; rfl)

/-- A ring's credits after `i` have been taken. -/
def crSt (c : Dev nD) (ρ : Bool) (i : ℕ) : sProp 𝕄 :=
  if i < 13 then
    iprop(∃ S : Finset ℕ, ⌜S ⊆ Finset.Icc 1 13 ∧ i ≤ S.card⌝ ∗ atPos ER (cell c (.cr ρ)) 0 S i
      ∗ bigSep S (fun k => freedTo (dst ρ c) ρ (k + 2))
      ∗ bigSep (Finset.Ico (i + 1) 14) (fun k => cred (tallyAt (cell c (.cr ρ)) (k + 2) 1)))
  else atPos ER (cell c (.cr ρ)) 1 ∅ 0

theorem dut_cr (ρ : Bool) : dut (.cr ρ) 0 = Finset.Icc 1 13 := rfl

/-- Of `i + 1` or more units numbered from 1 on, one is numbered at least `i + 1`. -/
theorem exists_late {S : Finset ℕ} {i : ℕ} (hS : S ⊆ Finset.Icc 1 13) (h : i + 1 ≤ S.card) : ∃ k ∈ S, i + 1 ≤ k := by
  by_contra hn
  have h1 : S ⊆ Finset.Icc 1 i := fun k hk => by
    have h2 := Finset.mem_Icc.mp (hS hk)
    exact Finset.mem_Icc.mpr ⟨h2.1, by by_contra h3; exact hn ⟨k, hk, by omega⟩⟩
  have h4 := Finset.card_le_card h1
  rw [Nat.card_Icc] at h4
  omega

omit [FloatOps F] in
theorem freedTo_pick (d : Dev nD) (ρ : Bool) {n s : ℕ} (h : s < n) : freedTo (F := F) d ρ n ⊢ freed d ρ s := by
  unfold freedTo
  iintro H
  ihave H := (bigSep_pick (Finset.mem_range.mpr h)) $$ H
  icases H with ⟨H, -⟩
  iexact H

omit [FloatOps F] in
theorem late_freed (d : Dev nD) (ρ : Bool) {S : Finset ℕ} {i : ℕ} (hS : S ⊆ Finset.Icc 1 13) (h : i + 1 ≤ S.card) :
    bigSep S (fun k => freedTo (F := F) d ρ (k + 2)) ⊢ freed d ρ (i + 2) := by
  obtain ⟨k, hk, hik⟩ := exists_late hS h
  iintro H
  ihave H := (bigSep_pick hk) $$ H
  icases H with ⟨H, -⟩
  iapply (freedTo_pick d ρ (show i + 2 < k + 2 by omega))
  iexact H

/-- Waiting for a credit when `i` have been taken: the slots for the copy of step `i + 2` are free. -/
theorem wp_credit (c : Dev nD) (ρ : Bool) {i : ℕ} (hi : i < 13) {O : CellTallies nD τ sig ℕ} (hO : Above (i + 3) O) (Q : PUnit → sProp 𝕄) :
    iprop(ctx X Y κ ν ∗ crSt c ρ i ∗ (∃ W, owes (c : Thread nD τ) O W)
        ∗ ((crSt c ρ (i + 1) ∗ freed (dst ρ c) ρ (i + 2) ∗ (∃ W, owes (c : Thread nD τ) O W)) -∗ Q ⟨⟩))
      ⊢ wpc c (semWaitWord (crdA ρ).sem 1#32) Q := by
  unfold semWaitWord
  rw [show crSt (F := F) c ρ i = _ from if_pos hi]
  iintro ⟨#Hctx, ⟨%S, %hS, Hat, #HS, Hd⟩, ⟨%W, HO⟩, HQ⟩
  ihave Hd := (deck14_peel (show i + 1 < 14 by omega) _) $$ Hd
  icases Hd with ⟨Hc, Hd⟩
  by_cases hl : i < 12
  · iapply (Rounds.wp_wait 𝒱₀ ER (Rd X Y) (c : Thread nD τ) none (κ := κ (c, .cr ρ)) (sm := csem (.cr ρ)) (k' := 1)
      (fun K => wpE_semWait_eq 𝒱₀ (c : Thread nD τ) none Set.univ K) (Set.mem_univ _)
      {(csem (.cr ρ), i + 3)} (cr := Finsupp.single (i + 3) 1) (O := O) (W := W) (R := 0) (m := i) (T := S)
      (by rw [Util.total_single]) (image_single_subset (csem (.cr ρ)) (i + 3) 1)) $$ [Hc HO Hat]
    · isplitr; · iapply (ctx_cell X Y κ ν c (.cr ρ)); iexact Hctx
      isplitl [Hc]; · iexact Hc
      isplitl [HO]; · iexact HO
      isplitr; · iapply (ctx_mayWait X Y κ ν c (csem (.cr ρ)) (show i + 3 < 20 by omega) hO); iexact Hctx
      iexact Hat
    iintro %S' ⟨%hS', HO, Hat, Hpay⟩
    have h1 : S ⊆ S' := hS'.1
    have h2 : S' ⊆ Finset.Icc 1 13 := by have h := hS'.2.1; rw [Rd_duties X Y c (.cr ρ)] at h; exact h
    have h3 : i + 1 ≤ S'.card := by
      have h := hS'.2.2
      rw [Rd_expect X Y c (.cr ρ), Rd_duties X Y c (.cr ρ), dut_cr, Finset.card_sdiff_of_subset h2, Nat.card_Icc] at h
      have h4 := Finset.card_le_card h2
      rw [Nat.card_Icc] at h4
      simp only [amt] at h
      omega
    ihave Hpay := (Entails.of_eq (show _ = bigSep (S' \ S) (fun k => freedTo (F := F) (dst ρ c) ρ (k + 2)) from
      bigSep_congr fun d _ => Rd_payload X Y c (.cr ρ) 0 d)) $$ Hpay
    ihave #HS' := (show iprop(bigSep S (fun k => freedTo (F := F) (dst ρ c) ρ (k + 2)) ∗ bigSep (S' \ S) (fun k => freedTo (F := F) (dst ρ c) ρ (k + 2)))
        ⊢ bigSep S' (fun k => freedTo (F := F) (dst ρ c) ρ (k + 2)) from Entails.of_eq (bigSep_sdiff_split h1).symm) $$ [Hpay]
    · isplitr; · iexact HS
      iexact Hpay
    iapply (wpc_ret c _ Q)
    iapply HQ
    isplitl [Hat Hd]
    · rw [show crSt (F := F) c ρ (i + 1) = _ from if_pos (show i + 1 < 13 by omega)]
      iexists S'
      isplitr; · ipureintro; exact ⟨h2, h3⟩
      isplitl [Hat]; · iexact Hat
      isplitr; · iexact HS'
      iexact Hd
    isplitr
    · iapply (late_freed (dst ρ c) ρ h2 h3); iexact HS'
    iexists _; iexact HO
  · have hi12 : i = 12 := by omega
    subst hi12
    iapply (Rounds.wp_wait_rest_token 𝒱₀ ER (Rd X Y) (c : Thread nD τ) none (κ := κ (c, .cr ρ)) (sm := csem (.cr ρ)) (k' := 1)
      (fun K => wpE_semWait_eq 𝒱₀ (c : Thread nD τ) none Set.univ K) (Set.mem_univ _) 15 (O := O) (W := W) (R := 0) (m := 12) (T := S)
      ((show 12 + 1 = (dut (.cr ρ) 0).card * amt (.cr ρ) by rw [dut_cr, Nat.card_Icc]; rfl).trans (Rd_expect X Y c (.cr ρ) 0).symm)) $$ [Hc HO Hat]
    · isplitr; · iapply (ctx_cell X Y κ ν c (.cr ρ)); iexact Hctx
      isplitl [Hc]; · iexact Hc
      isplitl [HO]; · iexact HO
      isplitr; · iapply (ctx_mayWait X Y κ ν c (csem (.cr ρ)) (show 15 < 20 by omega) hO); iexact Hctx
      iexact Hat
    iintro ⟨HO, Hat, -, Hpay⟩
    ihave Hpay := (Entails.of_eq (show _ = bigSep (Finset.Icc 1 13 \ S) (fun k => freedTo (F := F) (dst ρ c) ρ (k + 2)) by
      rw [Rd_duties X Y c (.cr ρ), dut_cr]; exact bigSep_congr fun d _ => Rd_payload X Y c (.cr ρ) 0 d)) $$ Hpay
    ihave #HS' := (show iprop(bigSep S (fun k => freedTo (F := F) (dst ρ c) ρ (k + 2)) ∗ bigSep (Finset.Icc 1 13 \ S) (fun k => freedTo (F := F) (dst ρ c) ρ (k + 2)))
        ⊢ bigSep (Finset.Icc 1 13) (fun k => freedTo (F := F) (dst ρ c) ρ (k + 2)) from Entails.of_eq (bigSep_sdiff_split hS.1).symm) $$ [Hpay]
    · isplitr; · iexact HS
      iexact Hpay
    iapply (wpc_ret c _ Q)
    iapply HQ
    isplitl [Hat]
    · rw [show crSt (F := F) c ρ (12 + 1) = _ from if_neg (by omega)]
      iexact Hat
    isplitr
    · iapply (late_freed (dst ρ c) ρ (i := 12) (Finset.Subset.refl _) (by rw [Nat.card_Icc])); iexact HS'
    iexists _; iexact HO

/-- The credit waits of step `n + 1`: from step 2 on one per ring; before, the entry handshake has said as much. -/
theorem wp_crWaitP (c : Dev nD) {n : ℕ} {b : Bool} (hb : b = decide (1 ≤ n)) (hn : n ≤ 13) {O : CellTallies nD τ sig ℕ} (hO : Above (n + 2) O)
    (Q : PUnit → sProp 𝕄) :
    iprop(ctx X Y κ ν ∗ (crSt c false (n - 1) ∗ crSt c true (n - 1)) ∗ (freedTo (dst false c) false 2 ∗ freedTo (dst true c) true 2)
        ∗ (∃ W, owes (c : Thread nD τ) O W)
        ∗ (((crSt c false n ∗ crSt c true n) ∗ (freed (dst false c) false (n + 1) ∗ freed (dst true c) true (n + 1))
            ∗ (∃ W, owes (c : Thread nD τ) O W)) -∗ Q ⟨⟩))
      ⊢ wpc c (crWaitP (F := F) b) Q := by
  by_cases h : 1 ≤ n
  · rw [decide_eq_true h] at hb
    subst hb
    obtain ⟨i, rfl⟩ : ∃ i, n = i + 1 := ⟨n - 1, by omega⟩
    rw [Nat.add_sub_cancel]
    unfold wpc
    simp only [crWaitP]
    rw [wp_bind]
    iintro ⟨#Hctx, ⟨H1, H2⟩, ⟨-, -⟩, HO, HQ⟩
    iapply (wp_credit X Y κ ν c false (show i < 13 by omega) hO)
    isplitr; · iexact Hctx
    isplitl [H1]; · iexact H1
    isplitl [HO]; · iexact HO
    iintro ⟨H1, #Hf1, HO⟩
    iapply (wp_credit X Y κ ν c true (show i < 13 by omega) hO)
    isplitr; · iexact Hctx
    isplitl [H2]; · iexact H2
    isplitl [HO]; · iexact HO
    iintro ⟨H2, #Hf2, HO⟩
    iapply HQ
    isplitl [H1 H2]
    · isplitl [H1]; · iexact H1
      iexact H2
    isplitr
    · isplitr; · iexact Hf1
      iexact Hf2
    iexact HO
  · rw [decide_eq_false h] at hb
    subst hb
    obtain rfl : n = 0 := by omega
    simp only [crWaitP]
    iintro ⟨#Hctx, ⟨H1, H2⟩, ⟨#Hf1, #Hf2⟩, HO, HQ⟩
    iapply (wpc_ret c _ Q)
    iapply HQ
    isplitl [H1 H2]
    · isplitl [H1]; · iexact H1
      iexact H2
    isplitr
    · isplitr
      · iapply (freedTo_pick _ _ (show 0 + 1 < 2 by omega)); iexact Hf1
      · iapply (freedTo_pick _ _ (show 0 + 1 < 2 by omega)); iexact Hf2
    iexact HO

/-! ## Giving a credit -/

omit [FloatOps F] in
theorem freedTo_succ (d : Dev nD) (ρ : Bool) (n : ℕ) : iprop(freed (F := F) d ρ n ∗ freedTo d ρ n) ⊢ freedTo d ρ (n + 1) :=
  Entails.of_eq (by unfold freedTo; rw [Finset.range_add_one, bigSep_insert Finset.notMem_range_self]; rfl)

theorem free_slot (c : Dev nD) (ρ : Bool) (j : Fin 2) {t : ℕ} (ht : t < 15) :
    iprop(ctx X Y κ ν ∗ Release.readerAt ES (c, ρ, j, t) 0 ∗ recvSlot c ρ (ph (t + 1)) j)
      ⊢ (|={Set.univ}=> Release.released ES (c, ρ, j, t) 1 : sProp 𝕄) := by
  iintro ⟨#Hctx, Hr, Hs⟩
  imod (Release.slot_release (S := keySlot (F := F) (c, ρ, j, t)) (ι := ν (c, ρ, j, t)) ES (Set.mem_univ _) (recvSlot_false c ρ (ph (t + 1)) j) 0) $$ [Hr Hs] with H
  · isplitr; · iapply (ctx_slot X Y κ ν _ (mem_keys _ _ _ ht)); iexact Hctx
    isplitl [Hr]; · iexact Hr
    unfold keySlot; iexact Hs
  icases H with ⟨-, H⟩
  imodintro
  iexact H

omit [FloatOps F] in
theorem freed_eq (d : Dev nD) (ρ : Bool) (s : ℕ) : freed (F := F) d ρ s
    = iprop((Release.released ES (d, ρ, 0, s) 1 ∗ reached ER (cell d (.rcv ρ (ph (s + 1)) 0)) (s / 2))
        ∗ (Release.released ES (d, ρ, 1, s) 1 ∗ reached ER (cell d (.rcv ρ (ph (s + 1)) 1)) (s / 2))) := by
  unfold freed; exact bigSep_fin_two _

/-- A device frees a ring's two landing slots for the copies of step `t`. -/
theorem free_step (c : Dev nD) (ρ : Bool) {t : ℕ} (ht : t < 15) :
    iprop(ctx X Y κ ν ∗ (deckR c ρ 0 t ∗ deckR c ρ 1 t)
        ∗ (recvSlot c ρ (ph (t + 1)) 0 ∗ reached ER (cell c (.rcv ρ (ph (t + 1)) 0)) (t / 2))
        ∗ (recvSlot c ρ (ph (t + 1)) 1 ∗ reached ER (cell c (.rcv ρ (ph (t + 1)) 1)) (t / 2))
        ∗ freedTo c ρ t)
      ⊢ (|={Set.univ}=> ((deckR c ρ 0 (t + 1) ∗ deckR c ρ 1 (t + 1)) ∗ freedTo c ρ (t + 1)) : sProp 𝕄) := by
  iintro ⟨#Hctx, ⟨H0, H1⟩, ⟨Hs0, #Hr0⟩, ⟨Hs1, #Hr1⟩, #Hf⟩
  unfold deckR
  ihave H0 := (deck_peel ht _) $$ H0
  ihave H1 := (deck_peel ht _) $$ H1
  icases H0 with ⟨Ha0, H0⟩
  icases H1 with ⟨Ha1, H1⟩
  imod (free_slot X Y κ ν c ρ 0 ht) $$ [Ha0 Hs0] with #Hl0
  · isplitr; · iexact Hctx
    isplitl [Ha0]; · iexact Ha0
    iexact Hs0
  imod (free_slot X Y κ ν c ρ 1 ht) $$ [Ha1 Hs1] with #Hl1
  · isplitr; · iexact Hctx
    isplitl [Ha1]; · iexact Ha1
    iexact Hs1
  imodintro
  isplitl
  · isplitl [H0]; · iexact H0
    iexact H1
  iapply (freedTo_succ c ρ t)
  isplitr
  · iapply (Entails.of_eq (freed_eq c ρ t).symm)
    isplitr
    · isplitr; · iexact Hl0
      iexact Hr0
    · isplitr; · iexact Hl1
      iexact Hr1
  iexact Hf

/-- The credit of step `k`, on ring `ρ`, to the device the ring's copies come from. -/
theorem wp_give (c n : Dev nD) (ρ : Bool) (hn : n = src ρ c) {k : ℕ} (h1 : 1 ≤ k) (h2 : k ≤ 13)
    {O₁ : CellTallies nD τ sig ℕ} (O : CellTallies nD τ sig ℕ) (hO : O₁ = O + itC c ρ k) (Q : PUnit → sProp 𝕄) :
    iprop(ctx X Y κ ν ∗ dutyTok ER (cell (src ρ c) (.cr ρ)) 0 k ∗ freedTo c ρ (k + 2) ∗ (∃ W, owes (c : Thread nD τ) O₁ W)
        ∗ ((∃ W, owes (c : Thread nD τ) O W) -∗ Q ⟨⟩))
      ⊢ wpc c (semSignalWord n (crdA ρ).sem 1#32) Q := by
  subst hn
  unfold semSignalWord
  iintro ⟨#Hctx, Ht, Hf, ⟨%W, HO⟩, HQ⟩
  iapply (Rounds.wp_signal 𝒱₀ ER (Rd X Y) (c : Thread nD τ) none (dst := (src ρ c : Thread nD τ)) (sem := (crdA ρ).sem) (k' := 1) (κ := κ (src ρ c, .cr ρ)) (r := 0)
      (d := k) (by exact (Rd_duties X Y (src ρ c) (.cr ρ) 0) ▸ Finset.mem_Icc.mpr ⟨h1, h2⟩) (by exact Rd_amount X Y (src ρ c) (.cr ρ) 0 k) (k + 2) O hO (W := W)) $$ [HO Ht Hf]
  · isplitr; · iapply (ctx_cell X Y κ ν (src ρ c) (.cr ρ)); iexact Hctx
    isplitl [HO]; · iexact HO
    isplitl [Ht]; · iexact Ht
    isplitl [Hf]
    · ihave Hf := (Entails.of_eq (show freedTo (F := F) c ρ (k + 2) = (Rd X Y).payload ((src ρ c : Thread nD τ), .reg (crdA ρ).sem) 0 k from
        ((Rd_payload X Y (src ρ c) (.cr ρ) 0 k).trans (by simp only [pay]; rw [dst_src])).symm)) $$ Hf
      iexact Hf
    · iapply (ctx_reached X Y κ ν (src ρ c) (.cr ρ)); iexact Hctx
  iintro HO
  iapply (wpc_ret c _ Q)
  iapply HQ
  iexists W; iexact HO

end Cert.RingProof

end
-- ==== Proof.Run.lean ====
/-
# The run of the body

The steps put together: the first step, a middle step (once, for every one of the fourteen), the chain of them by
recursion, and the last step.
-/
module

public import proofs.«01_k».proof.Proof.Credits

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F))
variable (Y : Dev nD → (cc0_stg1_0 : Ref sig .tc).ty.Contents (Elt F))
variable (κ : Dev nD × CI → ℕ) (ν : SK → ℕ)

abbrev xA : Memref sig .tc .vmem S4096x256 .f32 := Memref.whole cc0_stg0_0
abbrev wA : Memref sig .tc .vmem S256x8192 .f32 := Memref.whole cc0_stg1_0
abbrev oA : Memref sig .tc .vmem S256x8192 .f32 := Memref.whole cc0_stg2_0

theorem wpc_bind {α β : Type} (c : Dev nD) (p : Prog (TpuEff nD τ sig (Elt F) Λ₀ .tc) α) (k : α → Prog (TpuEff nD τ sig (Elt F) Λ₀ .tc) β)
    (Q : β → sProp 𝕄) : wpc c p (fun a => wpc c (k a) Q) ⊢ wpc c (p >>= k) Q := Entails.of_eq (wp_bind _ _ _ p k Q).symm

/-! ## The state between steps -/

/-- A device's duties to give credits from step `s` on. -/
def deckC (c : Dev nD) (ρ : Bool) (s : ℕ) : sProp 𝕄 :=
  bigSep (Finset.Ico s 14) fun k => dutyTok ER (cell (src ρ c) (.cr ρ)) 0 k
/-- The landing slots that are not given back: those of the last step but one. -/
def keep (c : Dev nD) (ρ : Bool) (n : ℕ) : sProp 𝕄 :=
  if n < 14 then iprop(emp) else iprop(recvSlot c ρ (ph 0) 0 ∗ recvSlot c ρ (ph 0) 1)
/-- A ring's state when step `n` is over, without its landing slots. -/
def lanes (c : Dev nD) (ρ : Bool) (n : ℕ) : sProp 𝕄 :=
  iprop((core c ρ 0 n ∗ core c ρ 1 n) ∗ (deckR c ρ 0 (n + 2) ∗ deckR c ρ 1 (n + 2)) ∗ deckC c ρ (n + 1) ∗ freedTo c ρ (min (n + 2) 15) ∗ keep c ρ n)
/-- A device's state when step `n` is over. -/
def st (c : Dev nD) (n : ℕ) : sProp 𝕄 :=
  iprop((lanes c false n ∗ lanes c true n) ∗ (crSt c false (n - 1) ∗ crSt c true (n - 1))
    ∗ (freedTo (dst false c) false 2 ∗ freedTo (dst true c) true 2)
    ∗ stgs X Y c ∗ (∃ W, owes (c : Thread nD τ) (owed c (n + 1)) W))

/-! ## The end of a step -/

/-- What a ring has after the hops of step `n + 1`, before its credit is given. -/
def hopped (c : Dev nD) (ρ : Bool) (n : ℕ) : sProp 𝕄 :=
  iprop((core c ρ 0 (n + 1) ∗ core c ρ 1 (n + 1)) ∗ (deckR c ρ 0 (n + 2) ∗ deckR c ρ 1 (n + 2)) ∗ deckC c ρ (n + 1) ∗ freedTo c ρ (min (n + 2) 15)
    ∗ (read c ρ 0 n ∗ read c ρ 1 n))

theorem deckR_none (c : Dev nD) (ρ : Bool) (j : Fin 2) : iprop(emp) ⊢ deckR (F := F) c ρ j (14 + 2) :=
  Entails.of_eq (by unfold deckR; rw [show Finset.Ico (14 + 2) 15 = ∅ from rfl, bigSep_empty]; rfl)

theorem deckC_none (c : Dev nD) (ρ : Bool) : deckC (F := F) c ρ (14 + 1) = deckC c ρ (13 + 1) := by
  unfold deckC
  rw [show Finset.Ico (13 + 1) 14 = ∅ from rfl, show Finset.Ico (14 + 1) 14 = ∅ from rfl]

/-- After step 14 nothing is given back. -/
theorem hopped_last (c : Dev nD) (ρ : Bool) : hopped (F := F) c ρ 13 ⊢ lanes c ρ 14 := by
  unfold hopped lanes read
  iintro ⟨Hc, ⟨-, -⟩, Hd, Hf, ⟨⟨H0, -⟩, ⟨H1, -⟩⟩⟩
  isplitl [Hc]; · iexact Hc
  isplitr
  · isplitr; · exact deckR_none c ρ 0
    exact deckR_none c ρ 1
  isplitl [Hd]
  · rw [deckC_none c ρ]; iexact Hd
  isplitl [Hf]; · iexact Hf
  rw [show keep (F := F) c ρ 14 = _ from if_neg (by omega)]
  isplitl [H0]; · iexact H0
  iexact H1

/-- Before that, a ring's landing slots of step `n + 1` are freed for the copies of step `n + 2`, and its credit can be given. -/
theorem hopped_mid (c : Dev nD) (ρ : Bool) {n : ℕ} (hn : n < 13) :
    iprop(ctx X Y κ ν ∗ hopped c ρ n)
      ⊢ (|={Set.univ}=> (lanes c ρ (n + 1) ∗ dutyTok ER (cell (src ρ c) (.cr ρ)) 0 (n + 1) ∗ freedTo c ρ (n + 3)) : sProp 𝕄) := by
  unfold hopped lanes read
  rw [show min (n + 2) 15 = n + 2 by omega, show min (n + 1 + 2) 15 = n + 3 by omega, show n / 2 + 1 = (n + 2) / 2 by omega,
    show ph (n + 1) = ph (n + 2 + 1) from (ph_add_two (n + 1)).symm]
  iintro ⟨#Hctx, Hc, Hr, Hd, #Hf, H0, H1⟩
  imod (free_step X Y κ ν c ρ (show n + 2 < 15 by omega)) $$ [Hr H0 H1] with ⟨Hr, #Hf'⟩
  · isplitr; · iexact Hctx
    isplitl [Hr]; · iexact Hr
    isplitl [H0]; · iexact H0
    isplitl [H1]; · iexact H1
    iexact Hf
  unfold deckC
  ihave Hd := (deck14_peel (show n + 1 < 14 by omega) _) $$ Hd
  icases Hd with ⟨Ht, Hd⟩
  imodintro
  isplitr [Ht]
  · isplitl [Hc]; · iexact Hc
    isplitl [Hr]; · iexact Hr
    isplitl [Hd]; · iexact Hd
    isplitr; · iexact Hf'
    rw [show keep (F := F) c ρ (n + 1) = _ from if_pos (by omega)]
    iempintro
  isplitl [Ht]; · iexact Ht
  iexact Hf'

/-- The end of step `n + 1`: its credits, if it gives any. -/
theorem wp_crGiveP (c : Dev nD) {n : ℕ} (hn : n ≤ 13) {b : Bool} (hb : b = decide (n + 1 ≤ 13)) (O : CellTallies nD τ sig ℕ) (Q : PUnit → sProp 𝕄) :
    iprop(ctx X Y κ ν ∗ (hopped c false n ∗ hopped c true n) ∗ (∃ W, owes (c : Thread nD τ) (O + crdO c (n + 1)) W)
        ∗ (((lanes c false (n + 1) ∗ lanes c true (n + 1)) ∗ (∃ W, owes (c : Thread nD τ) O W)) -∗ Q ⟨⟩))
      ⊢ wpc c (crGiveP (F := F) b c) Q := by
  by_cases h : n + 1 ≤ 13
  · rw [decide_eq_true h] at hb
    subst hb
    rw [show crdO c (n + 1) = itC c true (n + 1) + itC c false (n + 1) from if_pos ⟨by omega, h⟩]
    unfold wpc
    simp only [crGiveP]
    rw [wp_bind]
    iintro ⟨#Hctx, ⟨H1, H2⟩, HO, HQ⟩
    imod (hopped_mid X Y κ ν c false (show n < 13 by omega)) $$ [H1] with ⟨H1, Ht1, #Hf1⟩
    · isplitr; · iexact Hctx
      iexact H1
    imod (hopped_mid X Y κ ν c true (show n < 13 by omega)) $$ [H2] with ⟨H2, Ht2, #Hf2⟩
    · isplitr; · iexact Hctx
      iexact H2
    iapply (wp_give X Y κ ν c _ false (peer_not false c) (show 1 ≤ n + 1 by omega) h (O + itC c true (n + 1)) (add_assoc _ _ _).symm)
    isplitr; · iexact Hctx
    isplitl [Ht1]; · iexact Ht1
    isplitr; · iexact Hf1
    isplitl [HO]; · iexact HO
    iintro HO
    iapply (wp_give X Y κ ν c _ true (peer_not true c) (show 1 ≤ n + 1 by omega) h O rfl)
    isplitr; · iexact Hctx
    isplitl [Ht2]; · iexact Ht2
    isplitr; · iexact Hf2
    isplitl [HO]; · iexact HO
    iintro HO
    iapply HQ
    isplitl [H1 H2]
    · isplitl [H1]; · iexact H1
      iexact H2
    iexact HO
  · rw [decide_eq_false h] at hb
    subst hb
    obtain rfl : n = 13 := by omega
    rw [show crdO c (13 + 1) = 0 from if_neg (by omega), add_zero]
    simp only [crGiveP]
    iintro ⟨-, ⟨H1, H2⟩, HO, HQ⟩
    iapply (wpc_ret c _ Q)
    iapply HQ
    isplitl [H1 H2]
    · isplitl [H1]; · iapply (hopped_last c false); iexact H1
      iapply (hopped_last c true); iexact H2
    iexact HO

/-! ## A middle step -/

/-- What is owed in step `s` when its copies have started but its credits are not given; -/
def O4 (c : Dev nD) (s : ℕ) : CellTallies nD τ sig ℕ := owed c (s + 1) + crdO c s
/-- before the last of its copies; -/
def O3 (c : Dev nD) (s : ℕ) : CellTallies nD τ sig ℕ := O4 c s + itR c true 1 s
/-- before the last two; -/
def O2 (c : Dev nD) (s : ℕ) : CellTallies nD τ sig ℕ := O3 c s + itR c false 1 s
/-- before the last three. -/
def O1 (c : Dev nD) (s : ℕ) : CellTallies nD τ sig ℕ := O2 c s + itR c true 0 s

theorem owed_peel (c : Dev nD) {s : ℕ} (h : s < 15) : owed c s = O1 c s + itR c false 0 s := by
  rw [owed_succ c h]; unfold stepO O1 O2 O3 O4; simp only [add_assoc]

theorem above_O (c : Dev nD) {s k : ℕ} (h : k < s + 2) (hs : s < 15) : Above k (O3 c s) ∧ Above k (O2 c s) ∧ Above k (O1 c s) := by
  have h4 : Above k (O4 c s) := ((above_owed c (s + 1)).mono (by omega)).add (above_crdO c h)
  have h3 : Above k (O3 c s) := h4.add (.tally _ _ _ _ h (by omega))
  have h2 : Above k (O2 c s) := h3.add (.tally _ _ _ _ h (by omega))
  exact ⟨h3, h2, h2.add (.tally _ _ _ _ h (by omega))⟩

/-- Step `n + 1`, `1 ≤ n + 1 ≤ 14`. -/
theorem wp_stepP (c : Dev nD) {n : ℕ} (hn : n ≤ 13) (i : Fin 16) (hi : i = Fin.ofNat 16 (n + 1)) (q q' : Fin 2) (hq : q = ph (n + 1)) (hq' : q' = ph (n + 1 + 1))
    (b b' : Bool) (hb : b = decide (1 ≤ n)) (hb' : b' = decide (n + 1 ≤ 13)) (Q : PUnit → sProp 𝕄) :
    iprop(ctx X Y κ ν ∗ st X Y c n ∗ (st X Y c (n + 1) -∗ Q ⟨⟩)) ⊢ wpc c (stepP xA wA c i q q' b b') Q := by
  unfold st
  iintro ⟨#Hctx, ⟨⟨HL, HR⟩, Hcr, ⟨#Hb1, #Hb2⟩, Hst, HO⟩, HQ⟩
  obtain ⟨h3, h2, h1⟩ := above_O c (s := n + 1) (k := n + 2) (by omega) (by omega)
  have h0 : Above (n + 2) (O1 c (n + 1) + itR c false 0 (n + 1)) := h1.add (.tally _ _ _ _ (by omega) (by omega))
  rw [owed_peel c (show n + 1 < 15 by omega)]
  iapply (wpc_bind c _ _ _)
  iapply (wp_partP X Y c false i hi)
  isplitl [Hst]; · iexact Hst
  iintro Hst
  iapply (wpc_bind c _ _ _)
  iapply (wp_partP X Y c true i hi)
  isplitl [Hst]; · iexact Hst
  iintro Hst
  iapply (wpc_bind c _ _ _)
  iapply (wp_crWaitP X Y κ ν c hb hn h0)
  isplitr; · iexact Hctx
  isplitl [Hcr]; · iexact Hcr
  isplitr; · isplitr; · iexact Hb1
             iexact Hb2
  isplitl [HO]; · iexact HO
  iintro ⟨Hcr, ⟨#Hf1, #Hf2⟩, HO⟩
  unfold lanes
  icases HL with ⟨⟨HL0, HL1⟩, HL⟩
  icases HR with ⟨⟨HR0, HR1⟩, HR⟩
  iapply (wpc_bind c _ _ _)
  iapply (wp_hopP X Y κ ν c false 0 q q' hq hq' (show n + 1 < 15 by omega) (prt X Y false c (n + 1)) rfl h0 (O1 c (n + 1)) rfl)
  isplitr; · iexact Hctx
  isplitl [HL0]; · iexact HL0
  isplitr; · iexact Hf1
  isplitl [HO]; · iexact HO
  iintro ⟨HL0, Hl0, HO⟩
  iapply (wpc_bind c _ _ _)
  iapply (wp_hopP X Y κ ν c true 0 q q' hq hq' (show n + 1 < 15 by omega) (prt X Y true c (n + 1)) rfl h1 (O2 c (n + 1)) rfl)
  isplitr; · iexact Hctx
  isplitl [HR0]; · iexact HR0
  isplitr; · iexact Hf2
  isplitl [HO]; · iexact HO
  iintro ⟨HR0, Hr0, HO⟩
  iapply (wpc_bind c _ _ _)
  iapply (wp_hopP X Y κ ν c false 1 q q' hq hq' (show n + 1 < 15 by omega) (prt X Y false c (n + 1)) rfl h2 (O3 c (n + 1)) rfl)
  isplitr; · iexact Hctx
  isplitl [HL1]; · iexact HL1
  isplitr; · iexact Hf1
  isplitl [HO]; · iexact HO
  iintro ⟨HL1, Hl1, HO⟩
  iapply (wpc_bind c _ _ _)
  iapply (wp_hopP X Y κ ν c true 1 q q' hq hq' (show n + 1 < 15 by omega) (prt X Y true c (n + 1)) rfl h3 (O4 c (n + 1)) rfl)
  isplitr; · iexact Hctx
  isplitl [HR1]; · iexact HR1
  isplitr; · iexact Hf2
  isplitl [HO]; · iexact HO
  iintro ⟨HR1, Hr1, HO⟩
  icases HL with ⟨HLr, HLd, HLf, -⟩
  icases HR with ⟨HRr, HRd, HRf, -⟩
  iapply (wp_crGiveP X Y κ ν c hn hb' (owed c (n + 2)))
  isplitr; · iexact Hctx
  isplitl [HL0 HL1 HLr HLd HLf Hl0 Hl1 HR0 HR1 HRr HRd HRf Hr0 Hr1]
  · unfold hopped
    isplitl [HL0 HL1 HLr HLd HLf Hl0 Hl1]
    · isplitl [HL0 HL1]
      · isplitl [HL0]; · iexact HL0
        iexact HL1
      isplitl [HLr]; · iexact HLr
      isplitl [HLd]; · iexact HLd
      isplitl [HLf]; · iexact HLf
      isplitl [Hl0]; · iexact Hl0
      iexact Hl1
    · isplitl [HR0 HR1]
      · isplitl [HR0]; · iexact HR0
        iexact HR1
      isplitl [HRr]; · iexact HRr
      isplitl [HRd]; · iexact HRd
      isplitl [HRf]; · iexact HRf
      isplitl [Hr0]; · iexact Hr0
      iexact Hr1
  isplitl [HO]; · iexact HO
  iintro ⟨HLR, HO⟩
  iapply HQ
  unfold lanes
  isplitl [HLR]; · iexact HLR
  isplitl [Hcr]; · iexact Hcr
  isplitr; · isplitr; · iexact Hb1
             iexact Hb2
  isplitl [Hst]; · iexact Hst
  iexact HO

/-! ## The first step -/

/-- A ring's half at the start. -/
def first (c : Dev nD) (ρ : Bool) (j : Fin 2) : sProp 𝕄 :=
  iprop(sendSlot c ρ j ∗ atPos ER (cell c (.snd ρ j)) 0 ∅ 0
    ∗ atPos ER (cell c (.rcv ρ (ph 1) j)) 0 ∅ 0 ∗ atPos ER (cell c (.rcv ρ (ph 0) j)) 0 ∅ 0 ∗ deckA c ρ j 0 ∗ deckB c ρ j 0)
/-- A ring's state at the start. -/
def lanes₀ (c : Dev nD) (ρ : Bool) : sProp 𝕄 :=
  iprop((first c ρ 0 ∗ first c ρ 1) ∗ (deckR c ρ 0 2 ∗ deckR c ρ 1 2) ∗ deckC c ρ 1 ∗ freedTo c ρ 2)

theorem keep_none (c : Dev nD) (ρ : Bool) : iprop(emp) ⊢ keep (F := F) c ρ 0 :=
  Entails.of_eq (show keep (F := F) c ρ 0 = _ from if_pos (by omega)).symm

/-- The first copy of a half. -/
theorem wp_first (c : Dev nD) (ρ : Bool) (j : Fin 2) (p : FVec F S256x4096 .f32) (hp : p = prt X Y ρ c 0)
    {O₁ : CellTallies nD τ sig ℕ} (O : CellTallies nD τ sig ℕ) (hO : O₁ = O + itR c ρ j 0) (Q : PUnit → sProp 𝕄) :
    iprop(ctx X Y κ ν ∗ first c ρ j ∗ freed (dst ρ c) ρ 0 ∗ (∃ W, owes (c : Thread nD τ) O₁ W)
        ∗ ((core c ρ j 0 ∗ (∃ W, owes (c : Thread nD τ) O W)) -∗ Q ⟨⟩))
      ⊢ wpc c (sendP ρ j 1 c (sub j p)) Q := by
  unfold first
  iintro ⟨#Hctx, ⟨Hs, HatS, HatR, HatR', HA, HB⟩, #Hf, HO, HQ⟩
  iapply (wp_sendP X Y κ ν c ρ j 1 (s := 0) rfl (by omega) _ (by rw [hp]; rfl) O hO)
  isplitr; · iexact Hctx
  isplitl [Hs]; · iexact Hs
  isplitr; · iapply (ctx_reached X Y κ ν c (.snd ρ j)); iexact Hctx
  isplitl [HA]; · iexact HA
  isplitr; · iexact Hf
  isplitl [HO]; · iexact HO
  iintro ⟨Hc, HA, HO⟩
  iapply HQ
  isplitr [HO]
  · unfold core
    isplitl [HatS]; · iexact HatS
    isplitl [Hc]; · iexact Hc
    isplitl [HatR]; · iexact HatR
    isplitl [HatR']; · iexact HatR'
    isplitl [HA]; · iexact HA
    iexact HB
  iexact HO

/-- The first step. -/
theorem wp_step0P (c : Dev nD) (Q : PUnit → sProp 𝕄) :
    iprop(ctx X Y κ ν ∗ (lanes₀ c false ∗ lanes₀ c true) ∗ (crSt c false 0 ∗ crSt c true 0)
        ∗ (freedTo (dst false c) false 2 ∗ freedTo (dst true c) true 2)
        ∗ stgs X Y c ∗ (∃ W, owes (c : Thread nD τ) (owed c 0) W) ∗ (st X Y c 0 -∗ Q ⟨⟩)) ⊢ wpc c (step0P xA wA c) Q := by
  iintro ⟨#Hctx, ⟨HL, HR⟩, Hcr, ⟨#Hb1, #Hb2⟩, Hst, HO, HQ⟩
  rw [owed_peel c (show 0 < 15 by omega)]
  iapply (wpc_bind c _ _ _)
  iapply (wp_partP X Y c false 0 (s := 0) rfl)
  isplitl [Hst]; · iexact Hst
  iintro Hst
  iapply (wpc_bind c _ _ _)
  iapply (wp_partP X Y c true 0 (s := 0) rfl)
  isplitl [Hst]; · iexact Hst
  iintro Hst
  ihave #Hf1 := (freedTo_pick _ _ (show 0 < 2 by omega)) $$ Hb1
  ihave #Hf2 := (freedTo_pick _ _ (show 0 < 2 by omega)) $$ Hb2
  unfold lanes₀
  icases HL with ⟨⟨HL0, HL1⟩, HLr, HLd, HLf⟩
  icases HR with ⟨⟨HR0, HR1⟩, HRr, HRd, HRf⟩
  iapply (wpc_bind c _ _ _)
  iapply (wp_first X Y κ ν c false 0 (prt X Y false c 0) rfl (O₁ := O1 c 0 + itR c false 0 0) (O1 c 0) rfl)
  isplitr; · iexact Hctx
  isplitl [HL0]; · iexact HL0
  isplitr; · iexact Hf1
  isplitl [HO]; · iexact HO
  iintro ⟨HL0, HO⟩
  iapply (wpc_bind c _ _ _)
  iapply (wp_first X Y κ ν c true 0 (prt X Y true c 0) rfl (O₁ := O1 c 0) (O2 c 0) rfl)
  isplitr; · iexact Hctx
  isplitl [HR0]; · iexact HR0
  isplitr; · iexact Hf2
  isplitl [HO]; · iexact HO
  iintro ⟨HR0, HO⟩
  iapply (wpc_bind c _ _ _)
  iapply (wp_first X Y κ ν c false 1 (prt X Y false c 0) rfl (O₁ := O2 c 0) (O3 c 0) rfl)
  isplitr; · iexact Hctx
  isplitl [HL1]; · iexact HL1
  isplitr; · iexact Hf1
  isplitl [HO]; · iexact HO
  iintro ⟨HL1, HO⟩
  iapply (wp_first X Y κ ν c true 1 (prt X Y true c 0) rfl (O₁ := O3 c 0) (O4 c 0) rfl)
  isplitr; · iexact Hctx
  isplitl [HR1]; · iexact HR1
  isplitr; · iexact Hf2
  isplitl [HO]; · iexact HO
  iintro ⟨HR1, HO⟩
  iapply HQ
  unfold st lanes
  isplitl [HL0 HL1 HLr HLd HLf HR0 HR1 HRr HRd HRf]
  · isplitl [HL0 HL1 HLr HLd HLf]
    · isplitl [HL0 HL1]
      · isplitl [HL0]; · iexact HL0
        iexact HL1
      isplitl [HLr]; · iexact HLr
      isplitl [HLd]; · iexact HLd
      isplitl [HLf]; · iexact HLf
      iapply (keep_none c false); iempintro
    · isplitl [HR0 HR1]
      · isplitl [HR0]; · iexact HR0
        iexact HR1
      isplitl [HRr]; · iexact HRr
      isplitl [HRd]; · iexact HRd
      isplitl [HRf]; · iexact HRf
      iapply (keep_none c true); iempintro
  isplitl [Hcr]; · iexact Hcr
  isplitr; · isplitr; · iexact Hb1
             iexact Hb2
  isplitl [Hst]; · iexact Hst
  rw [show owed c (0 + 1) = O4 c 0 from (by unfold O4; rw [show crdO c 0 = 0 from if_neg (by omega), add_zero])]
  iexact HO

end Cert.RingProof

end
-- ==== Proof.Body.lean ====
/-
# The body of the kernel

The entry handshake, the last step, and the whole run of a device from its share of the ghost state to what it has at
the end: every slot back, every cell's schedule finished, the output written.
-/
module

public import proofs.«01_k».proof.Proof.Run

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F))
variable (Y : Dev nD → (cc0_stg1_0 : Ref sig .tc).ty.Contents (Elt F))
variable (κ : Dev nD × CI → ℕ) (ν : SK → ℕ)

/-! ## The last step -/

/-- The output buffer's contents. -/
abbrev OutC (F : FTy → Type) : Type := (cc0_stg2_0 : Ref sig .tc).ty.Contents (Elt F)
/-- The device's output buffer at contents `f`. -/
abbrev outPts (c : Dev nD) (f : OutC F) : sProp 𝕄 := (c : Thread nD τ).loc cc0_stg2_0 ↦{fullShare} f
/-- The output buffer after the activation of `v` is written to a quarter of its columns. -/
def putO (ρ : Bool) (j : Fin 2) (f : OutC F) (v : FVec F S256x2048 .f32) : OutC F :=
  ((oA : Memref sig .tc .vmem S256x8192 .f32).access (rO ρ j)).write (Elt F) f (act v) Finset.univ

/-- The last hop of a half. -/
theorem wp_lastP (c : Dev nD) (ρ : Bool) (j q : Fin 2) (hq : q = ph (14 + 1)) (p : FVec F S256x4096 .f32) (hp : p = prt X Y ρ c 15)
    (f : OutC F) (Q : PUnit → sProp 𝕄) :
    iprop(ctx X Y κ ν ∗ core c ρ j 14 ∗ (∃ W, owes (c : Thread nD τ) (owed c 15) W) ∗ outPts c f
        ∗ ((taken c ρ j 14 ∗ outPts c (putO ρ j f (val X Y ρ j 15 c)) ∗ (∃ W, owes (c : Thread nD τ) (owed c 15) W)) -∗ Q ⟨⟩))
      ⊢ wpc c (lastP oA ρ j q p) Q := by
  iintro ⟨#Hctx, Hcore, HO, Ho, HQ⟩
  iapply (wpc_bind c _ _ _)
  iapply (wp_takeP X Y κ ν c ρ j q hq (by omega) (above_owed c 15))
  isplitr; · iexact Hctx
  isplitl [Hcore]; · iexact Hcore
  isplitl [HO]; · iexact HO
  iintro %v ⟨%hv, Ht, HO⟩
  rw [hv]
  simp only [Prog.lift, Prog.bind_op, Prog.bind_ret, Prog.pure_eq_ret]
  iapply (wp_load 𝒱₀ (c : Thread nD τ) none Set.univ (m := oA) (Finset.subset_univ _)) $$ Ho
  iintro Ho
  iapply (wp_store 𝒱₀ (c : Thread nD τ) none Set.univ (m := oA) (r := rO ρ j) (Mk := Finset.univ) (Finset.subset_univ _)) $$ Ho
  iintro Ho
  iapply (wpc_ret c _ Q)
  iapply HQ
  isplitl [Ht]; · iexact Ht
  isplitl [Ho]
  · subst hp; iexact Ho
  iexact HO

/-- The output at the end, from the contents `f` the buffer had. -/
def outOf (c : Dev nD) (f : OutC F) : OutC F :=
  putO true 1 (putO false 1 (putO true 0 (putO false 0 f (val X Y false 0 15 c)) (val X Y true 0 15 c)) (val X Y false 1 15 c))
    (val X Y true 1 15 c)

/-- A ring at the end. -/
def ended (c : Dev nD) (ρ : Bool) : sProp 𝕄 :=
  iprop((taken c ρ 0 14 ∗ taken c ρ 1 14) ∗ (recvSlot c ρ (ph 0) 0 ∗ recvSlot c ρ (ph 0) 1) ∗ atPos ER (cell c (.cr ρ)) 1 ∅ 0)

/-- The last step. -/
theorem wp_stepLP (c : Dev nD) (f : OutC F) (Q : PUnit → sProp 𝕄) :
    iprop(ctx X Y κ ν ∗ st X Y c 14 ∗ outPts c f
        ∗ (((ended c false ∗ ended c true) ∗ stgs X Y c ∗ outPts c (outOf X Y c f) ∗ (∃ W, owes (c : Thread nD τ) (owed c 15) W)) -∗ Q ⟨⟩))
      ⊢ wpc c (stepLP xA wA oA c) Q := by
  unfold st
  iintro ⟨#Hctx, ⟨⟨HL, HR⟩, Hcr, -, Hst, HO⟩, Ho, HQ⟩
  iapply (wpc_bind c _ _ _)
  iapply (wp_partP X Y c false 15 (s := 15) rfl)
  isplitl [Hst]; · iexact Hst
  iintro Hst
  iapply (wpc_bind c _ _ _)
  iapply (wp_partP X Y c true 15 (s := 15) rfl)
  isplitl [Hst]; · iexact Hst
  iintro Hst
  unfold lanes
  rw [show keep (F := F) c false 14 = _ from if_neg (by omega), show keep (F := F) c true 14 = _ from if_neg (by omega),
    show crSt (F := F) c false (14 - 1) = _ from if_neg (by omega), show crSt (F := F) c true (14 - 1) = _ from if_neg (by omega)]
  icases HL with ⟨⟨HL0, HL1⟩, -, -, -, HLk⟩
  icases HR with ⟨⟨HR0, HR1⟩, -, -, -, HRk⟩
  icases Hcr with ⟨Hcr1, Hcr2⟩
  iapply (wpc_bind c _ _ _)
  iapply (wp_lastP X Y κ ν c false 0 1 rfl (prt X Y false c 15) rfl f)
  isplitr; · iexact Hctx
  isplitl [HL0]; · iexact HL0
  isplitl [HO]; · iexact HO
  isplitl [Ho]; · iexact Ho
  iintro ⟨HL0, Ho, HO⟩
  iapply (wpc_bind c _ _ _)
  iapply (wp_lastP X Y κ ν c true 0 1 rfl (prt X Y true c 15) rfl _)
  isplitr; · iexact Hctx
  isplitl [HR0]; · iexact HR0
  isplitl [HO]; · iexact HO
  isplitl [Ho]; · iexact Ho
  iintro ⟨HR0, Ho, HO⟩
  iapply (wpc_bind c _ _ _)
  iapply (wp_lastP X Y κ ν c false 1 1 rfl (prt X Y false c 15) rfl _)
  isplitr; · iexact Hctx
  isplitl [HL1]; · iexact HL1
  isplitl [HO]; · iexact HO
  isplitl [Ho]; · iexact Ho
  iintro ⟨HL1, Ho, HO⟩
  iapply (wp_lastP X Y κ ν c true 1 1 rfl (prt X Y true c 15) rfl _)
  isplitr; · iexact Hctx
  isplitl [HR1]; · iexact HR1
  isplitl [HO]; · iexact HO
  isplitl [Ho]; · iexact Ho
  iintro ⟨HR1, Ho, HO⟩
  iapply HQ
  unfold ended outOf
  isplitl [HL0 HL1 HLk Hcr1 HR0 HR1 HRk Hcr2]
  · isplitl [HL0 HL1 HLk Hcr1]
    · isplitl [HL0 HL1]
      · isplitl [HL0]; · iexact HL0
        iexact HL1
      isplitl [HLk]; · iexact HLk
      iexact Hcr1
    · isplitl [HR0 HR1]
      · isplitl [HR0]; · iexact HR0
        iexact HR1
      isplitl [HRk]; · iexact HRk
      iexact Hcr2
  isplitl [Hst]; · iexact Hst
  isplitl [Ho]; · iexact Ho
  iexact HO

/-! ## The chain of steps -/

/-- The steps from `n + 1` on, `m` of them before the last. -/
def runP (c : Dev nD) : ℕ → ℕ → Prog (TpuEff nD τ sig (Elt F) Λ₀ .tc) PUnit
  | 0, _ => stepLP xA wA oA c
  | m + 1, n => stepP xA wA c (Fin.ofNat 16 (n + 1)) (ph (n + 1)) (ph (n + 1 + 1)) (decide (1 ≤ n)) (decide (n + 1 ≤ 13)) >>= fun _ => runP c m (n + 1)

/-- The body is the handshake, the first step, and the chain of the others. -/
theorem bodyP_eq (c : Dev nD) : bodyP (F := F) xA wA oA c = (barP c >>= fun _ => step0P xA wA c >>= fun _ => runP c 14 0) := rfl

theorem wp_runP (c : Dev nD) (f : OutC F) (Q : PUnit → sProp 𝕄) : ∀ m n : ℕ, n + m = 14 →
    (iprop(ctx X Y κ ν ∗ st X Y c n ∗ outPts c f
        ∗ (((ended c false ∗ ended c true) ∗ stgs X Y c ∗ outPts c (outOf X Y c f) ∗ (∃ W, owes (c : Thread nD τ) (owed c 15) W)) -∗ Q ⟨⟩))
      ⊢ wpc c (runP c m n) Q)
  | 0, n, h => by
    obtain rfl : n = 14 := by omega
    exact wp_stepLP X Y κ ν c f Q
  | m + 1, n, h => by
    unfold runP
    iintro ⟨#Hctx, Hst, Ho, HQ⟩
    iapply (wpc_bind c _ _ _)
    iapply (wp_stepP X Y κ ν c (show n ≤ 13 by omega) _ rfl _ _ rfl rfl _ _ rfl rfl)
    isplitr; · iexact Hctx
    isplitl [Hst]; · iexact Hst
    iintro Hst
    iapply (wp_runP c f Q m (n + 1) (by omega))
    isplitr; · iexact Hctx
    isplitl [Hst]; · iexact Hst
    isplitl [Ho]; · iexact Ho
    iexact HQ

/-! ## The handshake -/

/-- The number of a ring's duty on the barrier cell. -/
def bd (ρ : Bool) : ℕ := match ρ with | false => 0 | true => 1
theorem bd_mem (ρ : Bool) : bd ρ ∈ dut .bar 0 := by cases ρ <;> decide
theorem pay_bd (c : Dev nD) (ρ : Bool) : pay X Y c .bar 0 (bd ρ) = freedTo (dst ρ c) ρ 2 := by cases ρ <;> rfl

/-- The signal of the handshake to the device ring `ρ`'s copies come from. -/
theorem wp_sigBar (c n : Dev nD) (ρ : Bool) (hn : n = src ρ c) {O₁ : CellTallies nD τ sig ℕ} (O : CellTallies nD τ sig ℕ)
    (hO : O₁ = O + itB c ρ) (Q : PUnit → sProp 𝕄) :
    iprop(ctx X Y κ ν ∗ dutyTok ER (cell (src ρ c) .bar) 0 (bd ρ) ∗ freedTo c ρ 2 ∗ (∃ W, owes (c : Thread nD τ) O₁ W)
        ∗ ((∃ W, owes (c : Thread nD τ) O W) -∗ Q ⟨⟩))
      ⊢ wpc c (semSignalWord n (sig.barrier 0 rfl) 1#32) Q := by
  subst hn
  unfold semSignalWord
  iintro ⟨#Hctx, Ht, Hf, ⟨%W, HO⟩, HQ⟩
  iapply (Rounds.wp_signal 𝒱₀ ER (Rd X Y) (c : Thread nD τ) none (dst := (src ρ c : Thread nD τ)) (sem := sig.barrier 0 rfl) (k' := 1) (κ := κ (src ρ c, .bar)) (r := 0)
      (d := bd ρ) (by exact (Rd_duties X Y (src ρ c) .bar 0) ▸ bd_mem ρ) (by exact Rd_amount X Y (src ρ c) .bar 0 (bd ρ)) 1 O hO (W := W)) $$ [HO Ht Hf]
  · isplitr; · iapply (ctx_cell X Y κ ν (src ρ c) .bar); iexact Hctx
    isplitl [HO]; · iexact HO
    isplitl [Ht]; · iexact Ht
    isplitl [Hf]
    · ihave Hf := (Entails.of_eq (show freedTo (F := F) c ρ 2 = (Rd X Y).payload ((src ρ c : Thread nD τ), .reg (sig.barrier 0 rfl)) 0 (bd ρ) from
        ((Rd_payload X Y (src ρ c) .bar 0 (bd ρ)).trans (by rw [pay_bd, dst_src])).symm)) $$ Hf
      iexact Hf
    · iapply (ctx_reached X Y κ ν (src ρ c) .bar); iexact Hctx
  iintro HO
  iapply (wpc_ret c _ Q)
  iapply HQ
  iexists W; iexact HO

/-- The handshake's wait: both neighbours' first landing slots are free. -/
theorem wp_waitBar (c : Dev nD) (Q : PUnit → sProp 𝕄) :
    iprop(ctx X Y κ ν ∗ cred (tallyAt (cell c .bar) 1 2) ∗ atPos ER (cell c .bar) 0 ∅ 0 ∗ (∃ W, owes (c : Thread nD τ) (owed c 0) W)
        ∗ ((atPos ER (cell c .bar) 1 ∅ 0 ∗ (freedTo (dst false c) false 2 ∗ freedTo (dst true c) true 2)
            ∗ (∃ W, owes (c : Thread nD τ) (owed c 0) W)) -∗ Q ⟨⟩))
      ⊢ wpc c (semWaitWord (sig.barrier 0 rfl) 2#32) Q := by
  unfold semWaitWord
  iintro ⟨#Hctx, Hc, Hat, ⟨%W, HO⟩, HQ⟩
  iapply (wp_whole X Y κ ν c .bar 0 1 (k' := 2) (fun K => wpE_semWait_eq 𝒱₀ (c : Thread nD τ) none Set.univ K) (by decide) (by omega) (above_owed c 0) W) $$ [Hc HO Hat]
  · isplitr; · iexact Hctx
    isplitl [Hc]; · iexact Hc
    isplitl [HO]; · iexact HO
    iexact Hat
  iintro ⟨HO, Hat, -, Hpay⟩
  iapply (wpc_ret c _ Q)
  iapply HQ
  isplitl [Hat]; · iexact Hat
  isplitl [Hpay]
  · ihave Hpay := (show bigSep (dut .bar 0) (fun d => pay X Y c .bar 0 d) ⊢ iprop(freedTo (dst false c) false 2 ∗ freedTo (dst true c) true 2) from
      Entails.of_eq (by
        rw [show dut .bar 0 = insert 0 {1} from rfl, bigSep_insert (by decide), bigSep_singleton]; rfl)) $$ Hpay
    iexact Hpay
  iexact HO

/-- A ring's landing slots, all free. -/
def slots (c : Dev nD) (ρ : Bool) : sProp 𝕄 :=
  iprop((recvSlot c ρ (ph 0) 0 ∗ recvSlot c ρ (ph 0) 1) ∗ (recvSlot c ρ (ph 1) 0 ∗ recvSlot c ρ (ph 1) 1))
/-- A ring's share of a device's state at the entry. -/
def entry (c : Dev nD) (ρ : Bool) : sProp 𝕄 :=
  iprop((first c ρ 0 ∗ first c ρ 1) ∗ (deckR c ρ 0 0 ∗ deckR c ρ 1 0) ∗ slots c ρ ∗ deckC c ρ 1 ∗ crSt c ρ 0
    ∗ dutyTok ER (cell (src ρ c) .bar) 0 (bd ρ))

omit [FloatOps F] in
theorem freedTo_zero (d : Dev nD) (ρ : Bool) : iprop(emp) ⊢ freedTo (F := F) d ρ 0 :=
  Entails.of_eq (by unfold freedTo; rw [Finset.range_zero, bigSep_empty]; rfl)

/-- Freeing a ring's landing slots for the copies of the first two steps. -/
theorem free_two (c : Dev nD) (ρ : Bool) :
    iprop(ctx X Y κ ν ∗ (deckR c ρ 0 0 ∗ deckR c ρ 1 0) ∗ slots c ρ)
      ⊢ (|={Set.univ}=> ((deckR c ρ 0 2 ∗ deckR c ρ 1 2) ∗ freedTo c ρ 2) : sProp 𝕄) := by
  unfold slots
  iintro ⟨#Hctx, Hd, ⟨Ha0, Ha1⟩, ⟨Hb0, Hb1⟩⟩
  imod (free_step X Y κ ν c ρ (t := 0) (by omega)) $$ [Hd Hb0 Hb1] with ⟨Hd, #Hf⟩
  · isplitr; · iexact Hctx
    isplitl [Hd]; · iexact Hd
    isplitl [Hb0]
    · isplitl; · iexact Hb0
      iapply (ctx_reached X Y κ ν c (.rcv ρ (ph 1) 0)); iexact Hctx
    isplitl [Hb1]
    · isplitl; · iexact Hb1
      iapply (ctx_reached X Y κ ν c (.rcv ρ (ph 1) 1)); iexact Hctx
    iapply (freedTo_zero c ρ); iempintro
  imod (free_step X Y κ ν c ρ (t := 1) (by omega)) $$ [Hd Ha0 Ha1] with ⟨Hd, #Hf2⟩
  · isplitr; · iexact Hctx
    isplitl [Hd]; · iexact Hd
    rw [show ph (1 + 1) = ph 0 from ph_add_two 0]
    isplitl [Ha0]
    · isplitl; · iexact Ha0
      iapply (ctx_reached X Y κ ν c (.rcv ρ (ph 0) 0)); iexact Hctx
    isplitl [Ha1]
    · isplitl; · iexact Ha1
      iapply (ctx_reached X Y κ ν c (.rcv ρ (ph 0) 1)); iexact Hctx
    iexact Hf
  imodintro
  isplitl [Hd]; · iexact Hd
  iexact Hf2

/-- The handshake, from the entry to the start of the first step. -/
theorem wp_barP (c : Dev nD) (Q : PUnit → sProp 𝕄) :
    iprop(ctx X Y κ ν ∗ (entry c false ∗ entry c true) ∗ cred (tallyAt (cell c .bar) 1 2) ∗ atPos ER (cell c .bar) 0 ∅ 0
        ∗ (∃ W, owes (c : Thread nD τ) (O₀ c) W)
        ∗ (((lanes₀ c false ∗ lanes₀ c true) ∗ (crSt c false 0 ∗ crSt c true 0) ∗ atPos ER (cell c .bar) 1 ∅ 0
            ∗ (freedTo (dst false c) false 2 ∗ freedTo (dst true c) true 2) ∗ (∃ W, owes (c : Thread nD τ) (owed c 0) W)) -∗ Q ⟨⟩))
      ⊢ wpc c (barP c) Q := by
  unfold entry
  iintro ⟨#Hctx, ⟨⟨HL, HLr, HLs, HLd, HLc, HLt⟩, ⟨HR, HRr, HRs, HRd, HRc, HRt⟩⟩, Hcred, Hat, HO, HQ⟩
  imod (free_two X Y κ ν c false) $$ [HLr HLs] with ⟨HLr, #Hf1⟩
  · isplitr; · iexact Hctx
    isplitl [HLr]; · iexact HLr
    iexact HLs
  imod (free_two X Y κ ν c true) $$ [HRr HRs] with ⟨HRr, #Hf2⟩
  · isplitr; · iexact Hctx
    isplitl [HRr]; · iexact HRr
    iexact HRs
  iapply (wpc_bind c _ _ _)
  iapply (wp_sigBar X Y κ ν c _ false (peer_not false c) (O₁ := O₀ c) (owed c 0 + itB c true) rfl)
  isplitr; · iexact Hctx
  isplitl [HLt]; · iexact HLt
  isplitr; · iexact Hf1
  isplitl [HO]; · iexact HO
  iintro HO
  iapply (wpc_bind c _ _ _)
  iapply (wp_sigBar X Y κ ν c _ true (peer_not true c) (O₁ := owed c 0 + itB c true) (owed c 0) rfl)
  isplitr; · iexact Hctx
  isplitl [HRt]; · iexact HRt
  isplitr; · iexact Hf2
  isplitl [HO]; · iexact HO
  iintro HO
  iapply (wp_waitBar X Y κ ν c)
  isplitr; · iexact Hctx
  isplitl [Hcred]; · iexact Hcred
  isplitl [Hat]; · iexact Hat
  isplitl [HO]; · iexact HO
  iintro ⟨Hat, Hb, HO⟩
  iapply HQ
  unfold lanes₀
  isplitl [HL HLr HLd HR HRr HRd]
  · isplitl [HL HLr HLd]
    · isplitl [HL]; · iexact HL
      isplitl [HLr]; · iexact HLr
      isplitl [HLd]; · iexact HLd
      iexact Hf1
    · isplitl [HR]; · iexact HR
      isplitl [HRr]; · iexact HRr
      isplitl [HRd]; · iexact HRd
      iexact Hf2
  isplitl [HLc HRc]
  · isplitl [HLc]; · iexact HLc
    iexact HRc
  isplitl [Hat]; · iexact Hat
  isplitl [Hb]; · iexact Hb
  iexact HO

/-! ## The end -/

/-- The round by which a cell's schedule is finished. -/
def fin : CI → ℕ
  | .bar => 1
  | .cr _ => 1
  | .snd _ _ => 15
  | .rcv _ q _ => 7 + q.val
theorem dut_fin : ∀ (i : CI) (r : ℕ), fin i ≤ r → dut i r = ∅
  | .bar, r, h => if_neg (by have h : 1 ≤ r := h; omega)
  | .cr _, r, h => if_neg (by have h : 1 ≤ r := h; omega)
  | .snd _ _, r, h => if_neg (by have h : 15 ≤ r := h; omega)
  | .rcv _ q _, r, h => if_neg (by have h : 7 + q.val ≤ r := h; unfold sendOf; omega)

/-- A cell whose schedule is finished can be closed: its counter is zero. -/
theorem close (c : Dev nD) (i : CI) :
    iprop(ctx X Y κ ν ∗ atPos ER (cell c i) (fin i) ∅ 0) ⊢ (|={Set.univ}=> semVal (cell c i) 0 : sProp 𝕄) := by
  iintro ⟨#Hctx, Hat⟩
  imod (Rounds.cell_close ER (Rd X Y) (κ := κ (c, i)) (g := cell c i) (Set.mem_univ _) (fun h => h) (R := fin i) (fun r hr => by rw [Rd_duties]; exact dut_fin i r hr)) $$ [Hat] with Hz
  · isplitr; · iapply (ctx_cell X Y κ ν c i); iexact Hctx
    iexact Hat
  imodintro
  iexact Hz

/-- What one half leaves: its send slot, its landing slot of the last copy, and its three cells at zero. -/
def halfDone (c : Dev nD) (ρ : Bool) (j : Fin 2) : sProp 𝕄 :=
  iprop(sendSlot c ρ j ∗ recvSlot c ρ (ph 1) j ∗ semVal (cell c (.snd ρ j)) 0 ∗ semVal (cell c (.rcv ρ (ph 1) j)) 0
    ∗ semVal (cell c (.rcv ρ (ph 0) j)) 0)
/-- What a ring leaves. -/
def ringDone (c : Dev nD) (ρ : Bool) : sProp 𝕄 :=
  iprop((halfDone c ρ 0 ∗ halfDone c ρ 1) ∗ (recvSlot c ρ (ph 0) 0 ∗ recvSlot c ρ (ph 0) 1) ∗ semVal (cell c (.cr ρ)) 0)

theorem half_close (c : Dev nD) (ρ : Bool) (j : Fin 2) :
    iprop(ctx X Y κ ν ∗ taken c ρ j 14) ⊢ (|={Set.univ}=> halfDone c ρ j : sProp 𝕄) := by
  unfold taken halfDone
  iintro ⟨#Hctx, H1, -, Hs, H2, -, Hr, H3, -⟩
  imod (close X Y κ ν c (.snd ρ j)) $$ [H1] with H1
  · isplitr; · iexact Hctx
    iexact H1
  imod (close X Y κ ν c (.rcv ρ (ph 1) j)) $$ [H2] with H2
  · isplitr; · iexact Hctx
    iexact H2
  imod (close X Y κ ν c (.rcv ρ (ph 0) j)) $$ [H3] with H3
  · isplitr; · iexact Hctx
    iexact H3
  imodintro
  isplitl [Hs]; · iexact Hs
  isplitl [Hr]; · iexact Hr
  isplitl [H1]; · iexact H1
  isplitl [H2]; · iexact H2
  iexact H3

theorem ring_close (c : Dev nD) (ρ : Bool) :
    iprop(ctx X Y κ ν ∗ ended c ρ) ⊢ (|={Set.univ}=> ringDone c ρ : sProp 𝕄) := by
  unfold ended ringDone
  iintro ⟨#Hctx, ⟨H0, H1⟩, Hs, Hc⟩
  imod (half_close X Y κ ν c ρ 0) $$ [H0] with H0
  · isplitr; · iexact Hctx
    iexact H0
  imod (half_close X Y κ ν c ρ 1) $$ [H1] with H1
  · isplitr; · iexact Hctx
    iexact H1
  imod (close X Y κ ν c (.cr ρ)) $$ [Hc] with Hc
  · isplitr; · iexact Hctx
    iexact Hc
  imodintro
  isplitl [H0 H1]
  · isplitl [H0]; · iexact H0
    iexact H1
  isplitl [Hs]; · iexact Hs
  iexact Hc

theorem wpc_fupd {α : Type} (c : Dev nD) (p : Prog (TpuEff nD τ sig (Elt F) Λ₀ .tc) α) (Q : α → sProp 𝕄) :
    wpc c p (fun a => iprop(|={Set.univ}=> Q a)) ⊢ wpc c p Q := wp_fupd _ _ _ p Q

/-- A device's share of the ghost state at the entry. -/
def begin_ (c : Dev nD) : sProp 𝕄 :=
  iprop((entry c false ∗ entry c true) ∗ cred (tallyAt (cell c .bar) 1 2) ∗ atPos ER (cell c .bar) 0 ∅ 0)
/-- What a device has at the end. -/
def finish (c : Dev nD) : sProp 𝕄 :=
  iprop((ringDone c false ∗ ringDone c true) ∗ semVal (cell c .bar) 0)

/-- The run of the whole body. -/
theorem wp_bodyP (c : Dev nD) (f : OutC F) (Q : PUnit → sProp 𝕄) :
    iprop(ctx X Y κ ν ∗ begin_ c ∗ stgs X Y c ∗ outPts c f ∗ (∃ W, owes (c : Thread nD τ) (O₀ c) W)
        ∗ ((finish c ∗ stgs X Y c ∗ outPts c (outOf X Y c f) ∗ (∃ W, owes (c : Thread nD τ) 0 W)) -∗ Q ⟨⟩))
      ⊢ wpc c (bodyP xA wA oA c) Q := by
  rw [bodyP_eq]
  unfold begin_
  iintro ⟨#Hctx, ⟨He, Hcred, Hat⟩, Hst, Ho, HO, HQ⟩
  iapply (wpc_bind c _ _ _)
  iapply (wp_barP X Y κ ν c)
  isplitr; · iexact Hctx
  isplitl [He]; · iexact He
  isplitl [Hcred]; · iexact Hcred
  isplitl [Hat]; · iexact Hat
  isplitl [HO]; · iexact HO
  iintro ⟨HL, Hcr, Hat, #Hb, HO⟩
  iapply (wpc_bind c _ _ _)
  iapply (wp_step0P X Y κ ν c)
  isplitr; · iexact Hctx
  isplitl [HL]; · iexact HL
  isplitl [Hcr]; · iexact Hcr
  isplitr; · iexact Hb
  isplitl [Hst]; · iexact Hst
  isplitl [HO]; · iexact HO
  iintro Hst
  iapply (wpc_fupd c _ Q)
  iapply (wp_runP X Y κ ν c f _ 14 0 rfl)
  isplitr; · iexact Hctx
  isplitl [Hst]; · iexact Hst
  isplitl [Ho]; · iexact Ho
  iintro ⟨⟨H1, H2⟩, Hst, Ho, HO⟩
  imod (ring_close X Y κ ν c false) $$ [H1] with H1
  · isplitr; · iexact Hctx
    iexact H1
  imod (ring_close X Y κ ν c true) $$ [H2] with H2
  · isplitr; · iexact Hctx
    iexact H2
  imod (close X Y κ ν c .bar) $$ [Hat] with Hat
  · isplitr; · iexact Hctx
    iexact Hat
  imodintro
  iapply HQ
  isplitl [H1 H2 Hat]
  · unfold finish
    isplitl [H1 H2]
    · isplitl [H1]; · iexact H1
      iexact H2
    iexact Hat
  isplitl [Hst]; · iexact Hst
  isplitl [Ho]; · iexact Ho
  rw [owed_last c]
  iexact HO

end Cert.RingProof

end
-- ==== Proof.Slots.lean ====
/-
# Slots, and the units a device is paid

A device's scratch buffers cut into the slots of the rings and put together again, and the units all devices owe
regrouped by the cell they are paid to.
-/
module

public import proofs.«01_k».proof.Proof.Body
public import Idealize.ShloMosaic.Lib.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

omit [FloatOps F] in
/-- An iterated conjunction is monotone. -/
theorem each {I : Type} {s : Finset I} {Φ Ψ : I → sProp 𝕄} (h : ∀ i ∈ s, Φ i ⊢ Ψ i) : bigSep s Φ ⊢ bigSep s Ψ := bigSep_mono h

/-! ## Scratch buffers and slots -/

/-- The buffer of a ring's send slots. -/
abbrev sendB (ρ : Bool) : Ref sig .tc := match ρ with | false => cc0_scratch0 | true => cc0_scratch1
/-- The buffer of a ring's landing slots. -/
abbrev recvB (ρ : Bool) : Ref sig .tc := match ρ with | false => cc0_scratch2 | true => cc0_scratch3

theorem rS_disj (b b' : Fin 2) (h : b ≠ b') : Disjoint (rS b).set (rS b').set := by
  refine Rect.unit_disjoint (0 : Fin 3) ?_
  have : b.val ≠ b'.val := fun e => h (Fin.ext e)
  show b.val + 1 ≤ b'.val ∨ b'.val + 1 ≤ b.val
  omega
theorem rS_cover : Finset.univ.biUnion (fun b => (rS b).set) = Finset.univ := by
  ext i
  simp only [Finset.mem_biUnion, Finset.mem_univ, true_and, iff_true]
  refine ⟨i 0, Rect.mem_set_unit.mpr fun a => ?_⟩
  fin_cases a
  · exact ⟨Nat.le_refl _, Nat.lt_succ_self _⟩
  · exact ⟨Nat.zero_le _, by have h := (i 1).isLt; show (i 1).val < 0 + 256; have h : (i 1).val < 256 := h; omega⟩
  · exact ⟨Nat.zero_le _, by have h := (i 2).isLt; show (i 2).val < 0 + 2048; have h : (i 2).val < 2048 := h; omega⟩
theorem rR_disj (b b' : Fin 2 × Fin 2) (h : b ≠ b') : Disjoint (rR b.1 b.2).set (rR b'.1 b'.2).set := by
  by_cases h1 : b.1 = b'.1
  · refine Rect.unit_disjoint (1 : Fin 4) ?_
    have : b.2.val ≠ b'.2.val := fun e => h (Prod.ext h1 (Fin.ext e))
    show b.2.val + 1 ≤ b'.2.val ∨ b'.2.val + 1 ≤ b.2.val
    omega
  · refine Rect.unit_disjoint (0 : Fin 4) ?_
    have : b.1.val ≠ b'.1.val := fun e => h1 (Fin.ext e)
    show b.1.val + 1 ≤ b'.1.val ∨ b'.1.val + 1 ≤ b.1.val
    omega
theorem rR_cover : Finset.univ.biUnion (fun b : Fin 2 × Fin 2 => (rR b.1 b.2).set) = Finset.univ := by
  ext i
  simp only [Finset.mem_biUnion, Finset.mem_univ, true_and, iff_true]
  refine ⟨(i 0, i 1), Rect.mem_set_unit.mpr fun a => ?_⟩
  fin_cases a
  · exact ⟨Nat.le_refl _, Nat.lt_succ_self _⟩
  · exact ⟨Nat.le_refl _, Nat.lt_succ_self _⟩
  · exact ⟨Nat.zero_le _, by have h := (i 2).isLt; show (i 2).val < 0 + 256; have h : (i 2).val < 256 := h; omega⟩
  · exact ⟨Nat.zero_le _, by have h := (i 3).isLt; show (i 3).val < 0 + 2048; have h : (i 3).val < 2048 := h; omega⟩

/-- A send slot's part of its buffer. -/
def sendI (ρ : Bool) (j : Fin 2) : Finset (sendB ρ).ty.Idx := match ρ with | false => (rS j).set | true => (rS j).set
/-- A landing slot's part of its buffer. -/
def recvI (ρ : Bool) (b : Fin 2 × Fin 2) : Finset (recvB ρ).ty.Idx := match ρ with | false => (rR b.1 b.2).set | true => (rR b.1 b.2).set

omit [FloatOps F] in
theorem sendSlot_eq (c : Dev nD) (ρ : Bool) (j : Fin 2) :
    sendSlot (F := F) c ρ j = iprop(∃ f : Buf (Elt F) ((c : Thread nD τ).loc (sendB ρ)), (c : Thread nD τ).loc (sendB ρ) ↦[sendI ρ j]{fullShare} f) := by
  cases ρ
  · unfold sendSlot sendPts
    rw [← set_send false j, View.set_slice_whole]; rfl
  · unfold sendSlot sendPts
    rw [← set_send true j, View.set_slice_whole]; rfl
omit [FloatOps F] in
theorem recvSlot_eq (c : Dev nD) (ρ : Bool) (b : Fin 2 × Fin 2) :
    recvSlot (F := F) c ρ b.1 b.2 = iprop(∃ f : Buf (Elt F) ((c : Thread nD τ).loc (recvB ρ)), (c : Thread nD τ).loc (recvB ρ) ↦[recvI ρ b]{fullShare} f) := by
  cases ρ
  · unfold recvSlot recvPts
    rw [← set_recv false b.1 b.2, View.set_slice_whole]; rfl
  · unfold recvSlot recvPts
    rw [← set_recv true b.1 b.2, View.set_slice_whole]; rfl

theorem sendI_disj : ∀ (ρ : Bool) (b b' : Fin 2), b ≠ b' → Disjoint (sendI ρ b) (sendI ρ b')
  | false => rS_disj
  | true => rS_disj
theorem sendI_cover : ∀ ρ : Bool, Finset.univ.biUnion (sendI ρ) = Finset.univ
  | false => rS_cover
  | true => rS_cover
theorem recvI_disj : ∀ (ρ : Bool) (b b' : Fin 2 × Fin 2), b ≠ b' → Disjoint (recvI ρ b) (recvI ρ b')
  | false => rR_disj
  | true => rR_disj
theorem recvI_cover : ∀ ρ : Bool, Finset.univ.biUnion (recvI ρ) = Finset.univ
  | false => rR_cover
  | true => rR_cover

omit [FloatOps F] in
/-- A buffer cut in parts, each at some contents, is the buffer at some contents. -/
theorem parts_eq {ℓ : Loc nD τ sig} {B : Type} [Fintype B] [DecidableEq B] (b₀ : B) (I : B → Finset (Idx ℓ))
    (hd : ∀ b b', b ≠ b' → Disjoint (I b) (I b')) (hc : Finset.univ.biUnion I = Finset.univ) :
    (iprop(∃ f : Buf (Elt F) ℓ, ℓ ↦{fullShare} f) : sProp 𝕄) = bigSep Finset.univ fun b => iprop(∃ f : Buf (Elt F) ℓ, ℓ ↦[I b]{fullShare} f) := by
  refine BI.equiv_iff.mp ⟨?_, ?_⟩
  · show (_ : sProp 𝕄) ⊢ _
    iintro ⟨%f, H⟩
    ihave H := (Entails.of_eq (Ring.pointsTo_blocks I hd hc f)) $$ H
    iapply (each fun b _ => (show (ℓ ↦[I b]{fullShare} f : sProp 𝕄) ⊢ iprop(∃ f : Buf (Elt F) ℓ, ℓ ↦[I b]{fullShare} f) by
      iintro H; iexists f; iexact H))
    iexact H
  · by_cases hn : Nonempty (Buf (Elt F) ℓ)
    · exact Ring.pointsTo_blocks_join_exists I hd hc hn.some
    · show (_ : sProp 𝕄) ⊢ _
      iintro H
      ihave H := (bigSep_pick (Finset.mem_univ b₀)) $$ H
      icases H with ⟨⟨%f, -⟩, -⟩
      exact absurd ⟨f⟩ hn

omit [FloatOps F] in
/-- A ring's send buffer is its two slots. -/
theorem send_split (c : Dev nD) (ρ : Bool) :
    (iprop(∃ f : Buf (Elt F) ((c : Thread nD τ).loc (sendB ρ)), (c : Thread nD τ).loc (sendB ρ) ↦{fullShare} f) : sProp 𝕄)
      = iprop(sendSlot c ρ 0 ∗ sendSlot c ρ 1) := by
  rw [parts_eq (ℓ := (c : Thread nD τ).loc (sendB ρ)) (0 : Fin 2) (sendI ρ) (sendI_disj ρ) (sendI_cover ρ), bigSep_fin_two, sendSlot_eq, sendSlot_eq]
  rfl
omit [FloatOps F] in
/-- A ring's landing buffer is its four slots. -/
theorem recv_split (c : Dev nD) (ρ : Bool) :
    (iprop(∃ f : Buf (Elt F) ((c : Thread nD τ).loc (recvB ρ)), (c : Thread nD τ).loc (recvB ρ) ↦{fullShare} f) : sProp 𝕄)
      = slots c ρ := by
  rw [parts_eq (ℓ := (c : Thread nD τ).loc (recvB ρ)) ((0, 0) : Fin 2 × Fin 2) (recvI ρ) (recvI_disj ρ) (recvI_cover ρ),
    bigSep_congr (fun b _ => (recvSlot_eq c ρ b).symm), bigSep_univ_prod, bigSep_fin_two, bigSep_fin_two, bigSep_fin_two]
  rfl

/-! ## The units a device is paid -/

omit [FloatOps F] in
theorem cred_rcv (c : Dev nD) (ρ : Bool) (j : Fin 2) (t : ℕ) :
    (Pipeline.launchCred (fun d => itR d ρ j t) c : sProp 𝕄) ⊢ cred (tallyAt (cell c (.rcv ρ (ph (t + 1)) j)) (t + 2) N) :=
  Pipeline.launchCred_tallyAt (csem (.rcv ρ (ph (t + 1)) j)) (dst ρ) (src ρ) (dst_src ρ) (src_dst ρ) (t + 2) N c
omit [FloatOps F] in
theorem cred_cr (c : Dev nD) (ρ : Bool) (t : ℕ) :
    (Pipeline.launchCred (fun d => itC d ρ t) c : sProp 𝕄) ⊢ cred (tallyAt (cell c (.cr ρ)) (t + 2) 1) :=
  Pipeline.launchCred_tallyAt (csem (.cr ρ)) (src ρ) (dst ρ) (src_dst ρ) (dst_src ρ) (t + 2) 1 c
omit [FloatOps F] in
theorem cred_bar (c : Dev nD) (ρ : Bool) :
    (Pipeline.launchCred (fun d => itB d ρ) c : sProp 𝕄) ⊢ cred (tallyAt (cell c .bar) 1 1) :=
  Pipeline.launchCred_tallyAt (csem .bar) (src ρ) (dst ρ) (src_dst ρ) (dst_src ρ) 1 1 c

/-- The units a ring is paid with the copies into it and as credits. -/
def paid (c : Dev nD) (ρ : Bool) : sProp 𝕄 :=
  iprop((deckB c ρ 0 0 ∗ deckB c ρ 1 0) ∗ bigSep (Finset.Ico 1 14) (fun k => cred (tallyAt (cell c (.cr ρ)) (k + 2) 1)))

omit [FloatOps F] in
theorem cred_step (c : Dev nD) (t : ℕ) :
    (Pipeline.launchCred (fun d => stepO d t) c : sProp 𝕄)
      = iprop((((Pipeline.launchCred (fun d => crdO d t) c ∗ Pipeline.launchCred (fun d => itR d true 1 t) c)
          ∗ Pipeline.launchCred (fun d => itR d false 1 t) c) ∗ Pipeline.launchCred (fun d => itR d true 0 t) c)
          ∗ Pipeline.launchCred (fun d => itR d false 0 t) c) := by
  unfold stepO
  rw [Pipeline.launchCred_add, Pipeline.launchCred_add, Pipeline.launchCred_add, Pipeline.launchCred_add]

omit [FloatOps F] in
theorem cred_crd (c : Dev nD) {t : ℕ} (h : t ∈ Finset.Ico 1 14) :
    (Pipeline.launchCred (fun d => crdO d t) c : sProp 𝕄)
      ⊢ iprop(cred (tallyAt (cell c (.cr true)) (t + 2) 1) ∗ cred (tallyAt (cell c (.cr false)) (t + 2) 1)) := by
  have h := Finset.mem_Ico.mp h
  rw [show (fun d => crdO d t) = fun d => itC d true t + itC d false t from funext fun d => if_pos ⟨h.1, by omega⟩, Pipeline.launchCred_add]
  exact BIClass.sep_mono (cred_cr c true t) (cred_cr c false t)

omit [FloatOps F] in
/-- What all devices owe, as the units one device is paid. -/
theorem creds (c : Dev nD) :
    (Pipeline.launchCred O₀ c : sProp 𝕄) ⊢ iprop((paid c false ∗ paid c true) ∗ cred (tallyAt (cell c .bar) 1 2)) := by
  rw [show (O₀ : Dev nD → CellTallies nD τ sig ℕ) = fun d => (owed d 0 + itB d true) + itB d false from rfl,
    Pipeline.launchCred_add, Pipeline.launchCred_add,
    show (fun d => owed d 0) = fun d => ∑ t ∈ Finset.Ico 0 15, stepO d t from rfl, Pipeline.launchCred_sum,
    bigSep_congr (fun t _ => cred_step c t), bigSep_sep', bigSep_sep', bigSep_sep', bigSep_sep']
  iintro ⟨⟨⟨⟨⟨⟨Hc, H1⟩, H2⟩, H3⟩, H4⟩, Hb1⟩, Hb2⟩
  ihave Hc := (show bigSep (Finset.Ico 0 15) (fun t => (Pipeline.launchCred (fun d => crdO d t) c : sProp 𝕄))
      ⊢ iprop(bigSep (Finset.Ico 1 14) (fun t => cred (tallyAt (cell c (.cr true)) (t + 2) 1))
        ∗ bigSep (Finset.Ico 1 14) (fun t => cred (tallyAt (cell c (.cr false)) (t + 2) 1))) from
    ((bigSep_subset (show Finset.Ico 1 14 ⊆ Finset.Ico 0 15 by decide)).trans
      ((bigSep_mono fun t h => cred_crd c h).trans (Entails.of_eq (bigSep_sep' _ _ _))))) $$ Hc
  icases Hc with ⟨Hc1, Hc2⟩
  unfold paid deckB
  isplitr [Hb1 Hb2]
  · isplitl [H2 H4 Hc2]
    · isplitl [H2 H4]
      · isplitl [H4]
        · iapply (each fun t _ => cred_rcv c false 0 t); iexact H4
        · iapply (each fun t _ => cred_rcv c false 1 t); iexact H2
      iexact Hc2
    · isplitl [H1 H3]
      · isplitl [H3]
        · iapply (each fun t _ => cred_rcv c true 0 t); iexact H3
        · iapply (each fun t _ => cred_rcv c true 1 t); iexact H1
      iexact Hc1
  · rw [show (tallyAt (cell c .bar) 1 2 : CellTallies nD τ sig ℕ) = tallyAt (cell c .bar) 1 1 + tallyAt (cell c .bar) 1 1 from (tallyAt_add _ _ 1 1).symm]
    iapply (cred_add _ _).2
    isplitl [Hb1]
    · iapply (cred_bar c true); iexact Hb1
    · iapply (cred_bar c false); iexact Hb2

end Cert.RingProof

end
-- ==== Proof.Deal.lean ====
/-
# The ghost state at the launch

The element the launch owns, what it gives each device, and the step in which all devices together put their cells
into invariants. Every token is given at once to the device that uses it, also where the cell is a neighbour's.
-/
module

public import proofs.«01_k».proof.Proof.Slots

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F))
variable (Y : Dev nD → (cc0_stg1_0 : Ref sig .tc).ty.Contents (Elt F))

/-! ## Names of the tokens -/

/-- A token: of the barrier, a credit, a send, a landing. -/
abbrev TK : Type := Unit ⊕ (ℕ ⊕ ((Fin 2 × ℕ) ⊕ (Fin 2 × ℕ)))
/-- The cell, round and duty of a token that device `c` uses for ring `ρ`. -/
def tokOf (x : Dev nD × Bool × TK) : GSem nD τ sig × ℕ × ℕ :=
  match x with
  | (c, ρ, .inl _) => (cell (src ρ c) .bar, 0, bd ρ)
  | (c, ρ, .inr (.inl k)) => (cell (src ρ c) (.cr ρ), 0, k)
  | (c, ρ, .inr (.inr (.inl (j, t)))) => (cell c (.snd ρ j), t, 0)
  | (c, ρ, .inr (.inr (.inr (j, t)))) => (cell (dst ρ c) (.rcv ρ (ph (t + 1)) j), t / 2, 0)

theorem src_inj (ρ : Bool) {c c' : Dev nD} (h : src ρ c = src ρ c') : c = c' := by rw [← dst_src ρ c, h, dst_src]
theorem dst_inj (ρ : Bool) {c c' : Dev nD} (h : dst ρ c = dst ρ c') : c = c' := by rw [← src_dst ρ c, h, src_dst]
theorem bd_inj : ∀ {ρ ρ' : Bool}, bd ρ = bd ρ' → ρ = ρ'
  | false, false, _ => rfl
  | false, true, h => absurd h (by decide)
  | true, false, h => absurd h (by decide)
  | true, true, _ => rfl

theorem tokOf_inj : Function.Injective tokOf := by
  rintro ⟨c, ρ, x⟩ ⟨c', ρ', x'⟩ h
  have h1 := congrArg Prod.fst h
  have h2 := congrArg (fun p => p.2.1) h
  have h3 := congrArg (fun p => p.2.2) h
  rcases x with _ | k | ⟨j, t⟩ | ⟨j, t⟩ <;> rcases x' with _ | k' | ⟨j', t'⟩ | ⟨j', t'⟩ <;>
    simp only [tokOf] at h1 h2 h3 <;> obtain ⟨hc, hi⟩ := cell_inj h1 <;> first | (cases hi; done) | skip
  · obtain rfl := bd_inj h3
    rw [src_inj ρ hc]
  · obtain ⟨rfl⟩ := hi
    rw [src_inj ρ hc, h3]
  · obtain ⟨rfl, rfl⟩ := hi
    rw [hc, h2]
  · have hi := CI.rcv.inj hi
    obtain ⟨rfl, hp, rfl⟩ := hi
    have hp := congrArg Fin.val hp
    simp only [ph, Fin.ofNat] at hp
    obtain rfl : t = t' := by omega
    rw [dst_inj ρ hc]

/-- The tokens a device uses for one ring. -/
def tks : Finset TK :=
  Finset.disjSum Finset.univ (Finset.disjSum (Finset.Ico 1 14) (Finset.disjSum (Finset.univ ×ˢ Finset.Ico 0 15) (Finset.univ ×ˢ Finset.Ico 0 15)))
/-- All tokens. -/
def ringToks : Finset (GSem nD τ sig × ℕ × ℕ) := (Finset.univ ×ˢ Finset.univ ×ˢ tks).map ⟨tokOf, tokOf_inj⟩
/-- All cells. -/
def ringCells : Finset (GSem nD τ sig) :=
  (Finset.univ : Finset (Dev nD × CI)).map ⟨fun x => cell x.1 x.2, fun x y h => Prod.ext (cell_inj h).1 (cell_inj h).2⟩

/-! ## A device's share -/

/-- A device's share of one ring: its tokens and its rights to free its slots. -/
def lane (c : Dev nD) (ρ : Bool) : sProp 𝕄 :=
  iprop((deckA c ρ 0 0 ∗ deckA c ρ 1 0) ∗ (deckR c ρ 0 0 ∗ deckR c ρ 1 0) ∗ deckC c ρ 1 ∗ dutyTok ER (cell (src ρ c) .bar) 0 (bd ρ))
/-- Its own cells' positions. -/
def spots (c : Dev nD) : sProp 𝕄 := bigSep Finset.univ fun i : CI => atPos ER (cell c i) 0 ∅ 0
/-- What every device knows: the slots' invariants and the first rounds' marks. -/
def known (ν : SK → ℕ) : sProp 𝕄 :=
  iprop(bigSep keys (fun k => Release.slotInv ES (ν k) k (keySlot (F := F) k)) ∗ bigSep Finset.univ (fun x : Dev nD × CI => reached ER (cell x.1 x.2) 0))
instance known_persistent (ν : SK → ℕ) : BI.Persistent (known (F := F) ν) := by unfold known; infer_instance
/-- A device's share of the ghost state. -/
def share (c : Dev nD) : sProp 𝕄 := iprop(spots c ∗ lane c false ∗ lane c true)
/-- With what it knows, and its cells' schedules before they are put into invariants; -/
def G (c : Dev nD) : sProp 𝕄 :=
  iprop((bigSep Finset.univ fun i : CI => roundState ER (Rd X Y) (cell c i) 0) ∗ ∃ ν, known ν ∗ share c)
/-- and after. -/
def G' (c : Dev nD) : sProp 𝕄 :=
  iprop((∃ κ : Dev nD × CI → ℕ, bigSep Finset.univ fun x : Dev nD × CI => cellInv ER (Rd X Y) (κ x) (cell x.1 x.2)) ∗ ∃ ν, known ν ∗ share c)

/-! ## The tokens dealt -/

omit [FloatOps F] in
theorem sum_split {A B : Type} [DecidableEq A] [DecidableEq B] (s : Finset A) (t : Finset B) (Φ : A ⊕ B → sProp 𝕄) :
    bigSep (Finset.disjSum s t) Φ = iprop(bigSep s (fun a => Φ (.inl a)) ∗ bigSep t (fun b => Φ (.inr b))) := by
  rw [← Finset.map_inl_disjUnion_map_inr, Finset.disjUnion_eq_union, bigSep_union (Finset.disjoint_map_inl_map_inr s t), bigSep_map, bigSep_map]
  rfl
omit [FloatOps F] in
theorem two (Φ : Bool → sProp 𝕄) : bigSep Finset.univ Φ = iprop(Φ false ∗ Φ true) :=
  bigSep_univ_eq_bigSepL [false, true] (by decide) (by decide) Φ
omit [FloatOps F] in
theorem prod_split {A B : Type} [DecidableEq A] [DecidableEq B] (s : Finset A) (t : Finset B) (Φ : A × B → sProp 𝕄) :
    bigSep (s ×ˢ t) Φ = bigSep s fun a => bigSep t fun b => Φ (a, b) := by
  induction s using Finset.induction_on with
  | empty => rw [Finset.empty_product, bigSep_empty, bigSep_empty]
  | insert a s ha ih =>
    have hd : Disjoint ({a} ×ˢ t) (s ×ˢ t) := by
      rw [Finset.disjoint_product]; exact .inl (Finset.disjoint_singleton_left.mpr ha)
    rw [bigSep_insert ha, Finset.insert_eq, Finset.union_product, bigSep_union hd, Finset.singleton_product, bigSep_map, ih]
    rfl
omit [FloatOps F] in
theorem halves (Φ : Fin 2 × ℕ → sProp 𝕄) : bigSep (Finset.univ ×ˢ Finset.Ico 0 15) Φ
    = iprop(bigSep (Finset.Ico 0 15) (fun t => Φ (0, t)) ∗ bigSep (Finset.Ico 0 15) (fun t => Φ (1, t))) := by
  rw [prod_split, bigSep_fin_two]; rfl

/-- The tokens of one ring and half of a device's copies. -/
def toksA (c : Dev nD) (ρ : Bool) (j : Fin 2) : sProp 𝕄 :=
  bigSep (Finset.Ico 0 15) fun t => iprop(dutyTok ER (cell c (.snd ρ j)) t 0 ∗ dutyTok ER (cell (dst ρ c) (.rcv ρ (ph (t + 1)) j)) (t / 2) 0)

omit [FloatOps F] in
theorem toks_ring (c : Dev nD) (ρ : Bool) :
    (bigSep tks (fun x => dutyTok ER (tokOf (c, ρ, x)).1 (tokOf (c, ρ, x)).2.1 (tokOf (c, ρ, x)).2.2) : sProp 𝕄)
      = iprop(dutyTok ER (cell (src ρ c) .bar) 0 (bd ρ) ∗ deckC c ρ 1 ∗ toksA c ρ 0 ∗ toksA c ρ 1) := by
  unfold tks toksA
  rw [sum_split, sum_split, sum_split, halves, halves, bigSep_sep', bigSep_sep']
  refine BI.equiv_iff.mp ⟨?_, ?_⟩
  · show (_ : sProp 𝕄) ⊢ _
    iintro ⟨Hb, Hc, ⟨H0, H1⟩, ⟨H2, H3⟩⟩
    ihave Hb := (bigSep_pick (Finset.mem_univ ())) $$ Hb
    icases Hb with ⟨Hb, -⟩
    isplitl [Hb]; · iexact Hb
    isplitl [Hc]; · unfold deckC; iexact Hc
    isplitl [H0 H2]
    · isplitl [H0]; · iexact H0
      iexact H2
    isplitl [H1]; · iexact H1
    iexact H3
  · show (_ : sProp 𝕄) ⊢ _
    iintro ⟨Hb, Hc, ⟨H0, H2⟩, ⟨H1, H3⟩⟩
    isplitl [Hb]
    · rw [show (Finset.univ : Finset Unit) = {()} from rfl, bigSep_singleton]; iexact Hb
    isplitl [Hc]; · unfold deckC; iexact Hc
    isplitl [H0 H1]
    · isplitl [H0]; · iexact H0
      iexact H1
    isplitl [H2]; · iexact H2
    iexact H3

/-- The rights to write a ring's landing slots of one half, of the device the ring carries `c`'s copies to. -/
def wts (c : Dev nD) (ρ : Bool) (j : Fin 2) : sProp 𝕄 := bigSep (Finset.Ico 0 15) fun t => Release.writeTok ES (c, ρ, j, t) 1

omit [FloatOps F] in
theorem keys_split (Φ : SK → sProp 𝕄) : bigSep keys Φ = bigSep Finset.univ fun d : Dev nD =>
    iprop((bigSep (Finset.Ico 0 15) (fun t => Φ (d, false, 0, t)) ∗ bigSep (Finset.Ico 0 15) (fun t => Φ (d, false, 1, t)))
      ∗ (bigSep (Finset.Ico 0 15) (fun t => Φ (d, true, 0, t)) ∗ bigSep (Finset.Ico 0 15) (fun t => Φ (d, true, 1, t)))) := by
  unfold keys
  rw [prod_split]
  refine bigSep_congr fun d _ => ?_
  rw [prod_split, two, Finset.range_eq_Ico, halves, halves]

omit [FloatOps F] in
/-- A family over the devices, handed around a ring. -/
theorem around (ρ : Bool) (Φ : Dev nD → sProp 𝕄) : bigSep Finset.univ Φ = bigSep Finset.univ fun c => Φ (dst ρ c) :=
  bigSep_univ_equiv (ring ρ) Φ

omit [FloatOps F] in
theorem deckA_intro (c : Dev nD) (ρ : Bool) (j : Fin 2) : iprop(toksA (F := F) c ρ j ∗ wts (dst ρ c) ρ j) ⊢ deckA c ρ j 0 := by
  unfold toksA wts deckA
  rw [bigSep_sep', bigSep_sep', bigSep_sep']
  iintro ⟨⟨H1, H2⟩, H3⟩
  isplitl [H1]; · iexact H1
  isplitl [H2]; · iexact H2
  iexact H3

omit [FloatOps F] in
theorem lane_intro (c : Dev nD) (ρ : Bool) :
    iprop((dutyTok ER (cell (src ρ c) .bar) 0 (bd ρ) ∗ deckC c ρ 1 ∗ toksA (F := F) c ρ 0 ∗ toksA c ρ 1)
      ∗ (deckR c ρ 0 0 ∗ deckR c ρ 1 0) ∗ (wts (dst ρ c) ρ 0 ∗ wts (dst ρ c) ρ 1)) ⊢ lane c ρ := by
  unfold lane
  iintro ⟨⟨Hb, Hc, H0, H1⟩, Hr, ⟨Hw0, Hw1⟩⟩
  isplitl [H0 H1 Hw0 Hw1]
  · isplitl [H0 Hw0]
    · iapply (deckA_intro c ρ 0)
      isplitl [H0]; · iexact H0
      iexact Hw0
    · iapply (deckA_intro c ρ 1)
      isplitl [H1]; · iexact H1
      iexact Hw1
  isplitl [Hr]; · iexact Hr
  isplitl [Hc]; · iexact Hc
  iexact Hb

omit [FloatOps F] in
/-- All devices' tokens and rights, by device. -/
theorem deal :
    iprop(bigSep ringToks (fun x => dutyTok ER x.1 x.2.1 x.2.2) ∗ bigSep keys (fun k => Release.readerAt ES k 0)
        ∗ bigSep (keys ×ˢ Finset.range 1) (fun x => Release.writeTok ES x.1 (x.2 + 1)))
      ⊢ (bigSep Finset.univ fun c : Dev nD => iprop(lane (F := F) c false ∗ lane c true) : sProp 𝕄) := by
  have hT : (bigSep ringToks (fun x => dutyTok ER x.1 x.2.1 x.2.2) : sProp 𝕄) = bigSep Finset.univ fun c : Dev nD =>
      iprop((dutyTok ER (cell (src false c) .bar) 0 (bd false) ∗ deckC c false 1 ∗ toksA (F := F) c false 0 ∗ toksA c false 1)
        ∗ (dutyTok ER (cell (src true c) .bar) 0 (bd true) ∗ deckC c true 1 ∗ toksA c true 0 ∗ toksA c true 1)) := by
    unfold ringToks
    rw [bigSep_map, prod_split]
    refine bigSep_congr fun c _ => ?_
    rw [prod_split, two]
    exact congrArg₂ _ (toks_ring c false) (toks_ring c true)
  have hR : (bigSep keys (fun k => Release.readerAt ES k 0) : sProp 𝕄) = bigSep Finset.univ fun c : Dev nD =>
      iprop((deckR c false 0 0 ∗ deckR c false 1 0) ∗ (deckR c true 0 0 ∗ deckR c true 1 0)) := keys_split _
  have hW : (bigSep (keys ×ˢ Finset.range 1) (fun x => Release.writeTok ES x.1 (x.2 + 1)) : sProp 𝕄) = bigSep Finset.univ fun c : Dev nD =>
      iprop((wts (dst false c) false 0 ∗ wts (dst false c) false 1) ∗ (wts (dst true c) true 0 ∗ wts (dst true c) true 1)) := by
    rw [prod_split, show Finset.range 1 = {0} from rfl,
      bigSep_congr (fun (k : SK) _ => bigSep_singleton (i := 0) (Φ := fun b : ℕ => (Release.writeTok ES k (b + 1) : sProp 𝕄))),
      keys_split]
    refine (bigSep_sep' _ _ _).trans (Eq.trans ?_ (bigSep_sep' _ _ _).symm)
    exact congrArg₂ _ (around false _) (around true _)
  rw [hT, hR, hW, ← bigSep_sep', ← bigSep_sep']
  refine each fun c _ => ?_
  iintro ⟨⟨Ht1, Ht2⟩, ⟨Hr1, Hr2⟩, ⟨Hw1, Hw2⟩⟩
  isplitl [Ht1 Hr1 Hw1]
  · iapply (lane_intro c false)
    isplitl [Ht1]; · iexact Ht1
    isplitl [Hr1]; · iexact Hr1
    iexact Hw1
  · iapply (lane_intro c true)
    isplitl [Ht2]; · iexact Ht2
    isplitl [Hr2]; · iexact Hr2
    iexact Hw2

/-! ## The launch element -/

/-- What the launch owns. -/
def u₀ : UU :=
  (initOf (Pipeline.cells cfgs cellOf_inj) (Pipeline.launchToks cfgs cellOf_inj), (initOf ringCells ringToks, Release.initSlots keys 1))

omit [FloatOps F] in
theorem cells_split (Φ : GSem nD τ sig → sProp 𝕄) :
    bigSep ringCells Φ = bigSep Finset.univ fun c : Dev nD => bigSep Finset.univ fun i : CI => Φ (cell c i) := by
  unfold ringCells; rw [bigSep_map, bigSep_univ_prod]; rfl

omit [FloatOps F] in
/-- Every member of a family gets what all may know. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem three (Φ Ψ Ξ : Dev nD → sProp 𝕄) :
    iprop(bigSep Finset.univ Φ ∗ bigSep Finset.univ Ψ ∗ bigSep Finset.univ Ξ) ⊢ bigSep Finset.univ fun c => iprop(Φ c ∗ Ψ c ∗ Ξ c) :=
  Entails.of_eq (by rw [bigSep_sep', bigSep_sep'])

/-- The launch's element is the pipeline's part and every device's share. -/
theorem fund_ring : (ownU u₀ : sProp 𝕄)
    ⊢ |={Set.univ}=> iprop(BI.own (EP (F := F) (initOf (Pipeline.cells cfgs cellOf_inj) (Pipeline.launchToks cfgs cellOf_inj))) ∗ bigSep Finset.univ (G X Y)) := by
  unfold u₀
  iintro Hu
  ihave Hu := (ownU_pair (nD := nD) (τ := τ) (sig := sig) (Ix := ℕ) (Val := Elt F) (Name := ℕ) (Lvl := ℕ) _ _) $$ Hu
  icases Hu with ⟨HP, Hu⟩
  ihave Hu := (own_pair_emb (embR : Emb (UB × Release.USlots SK) 𝕄) _ _) $$ Hu
  icases Hu with ⟨HR, HS⟩
  imod (Rounds.fund (ER (F := F)) (Rd X Y) ringCells ringToks) $$ HR with ⟨Hst, Hr, Hat, Htok⟩
  imod (Release.slots_init (ES (F := F)) keys 1 (keySlot (F := F)) (Es := Set.univ)) $$ HS with ⟨%ν, -, #Hinv, Hrd, Hw⟩
  imodintro
  isplitl [HP]; · iexact HP
  ihave Hst := (Entails.of_eq (cells_split fun g => roundState ER (Rd X Y) g 0)) $$ Hst
  ihave Hat := (Entails.of_eq (cells_split fun g => atPos ER g 0 ∅ 0)) $$ Hat
  ihave #Hr := (Entails.of_eq ((cells_split fun g => (reached ER g 0 : sProp 𝕄)).trans (bigSep_univ_prod (fun x : Dev nD × CI => reached ER (cell x.1 x.2) 0)).symm)) $$ Hr
  ihave Hl := (deal (F := F)) $$ [Htok Hrd Hw]
  · isplitl [Htok]; · iexact Htok
    isplitl [Hrd]; · iexact Hrd
    iexact Hw
  iapply (with_known (R := known (F := F) ν) (Φ := fun c => iprop((bigSep Finset.univ fun i : CI => roundState ER (Rd X Y) (cell c i) 0)
    ∗ spots (F := F) c ∗ (lane c false ∗ lane c true))) (fun c _ => show _ ⊢ G X Y c by
      unfold G share
      iintro ⟨#Hk, H1, H2, H3⟩
      isplitl [H1]; · iexact H1
      iexists ν
      isplitr; · iexact Hk
      isplitl [H2]; · iexact H2
      iexact H3))
  isplitr
  · unfold known
    isplitr; · iexact Hinv
    iexact Hr
  iapply (three _ _ _)
  isplitl [Hst]; · iexact Hst
  isplitl [Hat]; · unfold spots; iexact Hat
  iexact Hl

/-! ## The cells put into invariants -/

/-- The cells of the kernel's own semaphores, in order. -/
def oci : Fin 14 → CI :=
  ![.cr false, .cr true, .snd false 0, .snd false 1, .snd true 0, .snd true 1,
    .rcv false 0 0, .rcv false 0 1, .rcv false 1 0, .rcv false 1 1, .rcv true 0 0, .rcv true 0 1, .rcv true 1 0, .rcv true 1 1]
/-- The kernel's own semaphores. -/
abbrev osem (k : Fin 14) : SemLoc sig := csem (oci k)

theorem ownSemFacts : Pipeline.OwnSemFacts cfg0.spec osem := by decide

omit [FloatOps F] in
theorem cis_split (Φ : CI → sProp 𝕄) : bigSep Finset.univ Φ = iprop(Φ .bar ∗ bigSep Finset.univ fun k : Fin 14 => Φ (oci k)) := by
  rw [show (Finset.univ : Finset CI) = insert .bar (Finset.univ.map ⟨oci, by decide⟩) by decide, bigSep_insert (by decide), bigSep_map]
  rfl
omit [FloatOps F] in
theorem unscopedSems0_eq (c : Dev nD) : (unscopedSems0 c : sProp 𝕄) = semVal (cell c .bar) 0 := by
  unfold unscopedSems0; rw [bigSep_eq_bigSepL_of_eq [csem .bar] (by decide) (by decide)]; rfl
omit [FloatOps F] in
/-- A device's counters at the launch are its cells'. -/
theorem sems_eq (c : Dev nD) :
    (iprop(Pipeline.ownSems0 (Ix := ℕ) (Name := ℕ) (U := UU) (Lvl := ℕ) (Val := Elt F) (τ := τ) osem c ∗ unscopedSems0 c) : sProp 𝕄)
      ⊢ bigSep Finset.univ fun i : CI => semVal (cell c i) 0 := by
  rw [unscopedSems0_eq, cis_split]
  unfold Pipeline.ownSems0
  iintro ⟨H1, H2⟩
  isplitl [H2]; · iexact H2
  iexact H1

/-- A device's cells are put into invariants. -/
theorem core_alloc (c : Dev nD) :
    iprop(Pipeline.ownSems0 (Ix := ℕ) (Name := ℕ) (U := UU) (Lvl := ℕ) (Val := Elt F) (τ := τ) osem c ∗ unscopedSems0 c ∗ G X Y c)
      ⊢ |={Set.univ}=> iprop((bigSep Finset.univ fun i : CI => iprop(∃ κ : ℕ, cellInv ER (Rd X Y) κ (cell c i))) ∗ ∃ ν, known ν ∗ share c) := by
  unfold G
  iintro ⟨Ho, Hu, Hst, Hk⟩
  ihave Hv := (sems_eq (F := F) c) $$ [Ho Hu]
  · isplitl [Ho]; · iexact Ho
    iexact Hu
  imod (show iprop((bigSep Finset.univ fun i : CI => semVal (cell c i) 0) ∗ bigSep Finset.univ fun i : CI => roundState ER (Rd X Y) (cell c i) 0)
      ⊢ (|={Set.univ}=> bigSep Finset.univ fun i : CI => iprop(∃ κ : ℕ, cellInv ER (Rd X Y) κ (cell c i)) : sProp 𝕄) from by
        rw [← bigSep_sep']
        exact (bigSep_mono fun i _ => (Rounds.body_intro ER (Rd X Y) (cell c i)).trans inv_alloc).trans (bigSep_fupd _ _)) $$ [Hv Hst] with Hinv
  · isplitl [Hv]; · iexact Hv
    iexact Hst
  imodintro
  isplitl [Hinv]; · iexact Hinv
  iexact Hk

/-- All devices' cells are put into invariants, which all devices know. -/
theorem glob : (bigSep Finset.univ fun c => iprop(Pipeline.ownSems0 (Ix := ℕ) (Name := ℕ) (U := UU) (Lvl := ℕ) (Val := Elt F) (τ := τ) osem c ∗ unscopedSems0 c ∗ G X Y c) : sProp 𝕄)
    ⊢ |={Set.univ}=> bigSep Finset.univ (G' X Y) := by
  iintro H
  imod (show _ ⊢ (|={Set.univ}=> bigSep Finset.univ fun c => iprop((bigSep Finset.univ fun i : CI => iprop(∃ κ : ℕ, cellInv ER (Rd X Y) κ (cell c i))) ∗ ∃ ν, known ν ∗ share c) : sProp 𝕄)
    from (bigSep_mono fun c _ => core_alloc X Y c).trans (bigSep_fupd _ _)) $$ H with H
  imodintro
  ihave H := (Entails.of_eq (show _ = iprop((bigSep Finset.univ fun x : Dev nD × CI => iprop(∃ κ : ℕ, cellInv ER (Rd X Y) κ (cell x.1 x.2)))
      ∗ bigSep Finset.univ fun c : Dev nD => iprop(∃ ν, known (F := F) ν ∗ share c)) by rw [bigSep_sep', bigSep_univ_prod])) $$ H
  icases H with ⟨HI, Hk⟩
  ihave HI := (BI.bigSep_exists_pi Finset.univ (fun (x : Dev nD × CI) (κ : ℕ) => (cellInv ER (Rd X Y) κ (cell x.1 x.2) : sProp 𝕄))) $$ HI
  icases HI with ⟨%κ, #HI⟩
  iapply (with_known (R := bigSep Finset.univ fun x : Dev nD × CI => cellInv ER (Rd X Y) (κ x) (cell x.1 x.2)) fun c _ => show _ ⊢ G' X Y c by
    unfold G'
    iintro ⟨#H, Hk⟩
    isplitr
    · iexists κ; iexact H
    iexact Hk)
  isplitr; · iexact HI
  iexact Hk

end Cert.RingProof

end
-- ==== Proof.Out.lean ====
/-
# The output buffer

The four quarters of columns that the last step writes cover the output buffer, so what it holds in the end does not
depend on what it held before.
-/
module

public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F))
variable (Y : Dev nD → (cc0_stg1_0 : Ref sig .tc).ty.Contents (Elt F))

/-- Where an element of a quarter lies in the output buffer. -/
abbrev inO (ρ : Bool) (j : Fin 2) (x : S256x2048.Idx) : S256x8192.Idx :=
  ((oA : Memref sig .tc .vmem S256x8192 .f32).access (rO ρ j)).emb x

/-- Distinct quarters do not meet. -/
theorem rO_disj (ρ ρ' : Bool) (j j' : Fin 2) (h : (ρ, j) ≠ (ρ', j')) : Disjoint (rO ρ j).set (rO ρ' j').set := by
  refine Rect.unit_disjoint (1 : Fin 2) ?_
  show colO ρ j + 2048 ≤ colO ρ' j' ∨ colO ρ' j' + 2048 ≤ colO ρ j
  revert h; revert ρ ρ' j j'; decide

theorem vO_disj (ρ ρ' : Bool) (j j' : Fin 2) (h : (ρ, j) ≠ (ρ', j')) :
    Disjoint ((oA : Memref sig .tc .vmem S256x8192 .f32).access (rO ρ j)).set ((oA : Memref sig .tc .vmem S256x8192 .f32).access (rO ρ' j')).set := by
  rw [View.set_slice_whole, View.set_slice_whole]; exact rO_disj ρ ρ' j j' h

/-- A written quarter holds the activation. -/
theorem putO_in (ρ : Bool) (j : Fin 2) (f : OutC F) (v : FVec F S256x2048 .f32) (x : S256x2048.Idx) :
    putO ρ j f v (inO ρ j x) = act v x :=
  View.write_emb_of_mem (v := (oA : Memref sig .tc .vmem S256x8192 .f32).access (rO ρ j)) f (act v) (Finset.mem_univ x)

/-- The other quarters are as before. -/
theorem putO_out (ρ ρ' : Bool) (j j' : Fin 2) (h : (ρ, j) ≠ (ρ', j')) (f : OutC F) (v : FVec F S256x2048 .f32) (x : S256x2048.Idx) :
    putO ρ j f v (inO ρ' j' x) = f (inO ρ' j' x) := by
  refine View.write_of_not_mem (v := (oA : Memref sig .tc .vmem S256x8192 .f32).access (rO ρ j)) f (act v) Finset.univ ?_
  rw [View.setOn_univ]
  exact fun hm => Finset.disjoint_left.mp (vO_disj ρ ρ' j j' h) hm (Finset.mem_map_of_mem _ (Finset.mem_univ x))

/-- The output at the end, at an element of a quarter. -/
theorem outOf_in (c : Dev nD) (f : OutC F) (ρ : Bool) (j : Fin 2) (x : S256x2048.Idx) :
    outOf X Y c f (inO ρ j x) = act (val X Y ρ j 15 c) x := by
  unfold outOf
  cases ρ <;> fin_cases j
  · rw [putO_out _ _ _ _ (by decide), putO_out _ _ _ _ (by decide), putO_out _ _ _ _ (by decide)]; exact putO_in _ _ _ _ _
  · rw [putO_out _ _ _ _ (by decide)]; exact putO_in _ _ _ _ _
  · rw [putO_out _ _ _ _ (by decide), putO_out _ _ _ _ (by decide)]; exact putO_in _ _ _ _ _
  · exact putO_in _ _ _ _ _

/-- Every element of the output lies in a quarter. -/
theorem cover_O (i : S256x8192.Idx) : ∃ (ρ : Bool) (j : Fin 2) (x : S256x2048.Idx), i = inO ρ j x := by
  have h1 : (i 1).val < 8192 := (i 1).isLt
  have h0 : (i 0).val < 256 := (i 0).isLt
  have key : ∀ (ρ : Bool) (j : Fin 2), colO ρ j ≤ (i 1).val → (i 1).val < colO ρ j + 2048 → ∃ x : S256x2048.Idx, i = inO ρ j x := fun ρ j h h' => by
    have hm : i ∈ (rO ρ j).set := Rect.mem_set_unit.mpr fun a => by
      fin_cases a
      · exact ⟨Nat.zero_le _, by show (i 0).val < 0 + 256; omega⟩
      · exact ⟨h, h'⟩
    rw [← View.set_slice_whole (cc0_stg2_0 : Ref sig .tc) (rO ρ j)] at hm
    obtain ⟨x, -, hx⟩ := Finset.mem_map.mp hm
    exact ⟨x, hx.symm⟩
  by_cases ha : (i 1).val < 4096
  · by_cases hb : (i 1).val < 2048
    · exact ⟨false, 0, key false 0 (by simp only [colO]; omega) (by simp only [colO]; omega)⟩
    · exact ⟨false, 1, key false 1 (by simp only [colO]; omega) (by simp only [colO]; omega)⟩
  · by_cases hb : (i 1).val < 6144
    · exact ⟨true, 0, key true 0 (by simp only [colO]; omega) (by simp only [colO]; omega)⟩
    · exact ⟨true, 1, key true 1 (by simp only [colO]; omega) (by simp only [colO]; omega)⟩

/-- The output at the end, whatever the buffer held before. -/
def outAt (c : Dev nD) : OutC F := outOf X Y c (Y c)
theorem outOf_eq (c : Dev nD) (f : OutC F) : outOf X Y c f = outAt X Y c := by
  funext i
  obtain ⟨ρ, j, x, rfl⟩ := cover_O i
  rw [outAt, outOf_in, outOf_in]

end Cert.RingProof

end
-- ==== Proof.Entry.lean ====
/-
# Into the body and out of it

From the launch's share of the ghost state to the state the body starts from, and from the state it ends in to what
the launch asks back.
-/
module

public import proofs.«01_k».proof.Proof.Deal
public import proofs.«01_k».proof.Proof.Out
public import proofs.«01_k».proof.Proof.Gen.KernelIdeal.Points

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

/-! ## A device's cells, by ring -/

/-- One ring's part of a family over a device's cells. -/
def laneOf (Φ : CI → sProp 𝕄) (ρ : Bool) : sProp 𝕄 :=
  iprop(Φ (.cr ρ) ∗ (Φ (.snd ρ 0) ∗ Φ (.rcv ρ (ph 1) 0) ∗ Φ (.rcv ρ (ph 0) 0)) ∗ (Φ (.snd ρ 1) ∗ Φ (.rcv ρ (ph 1) 1) ∗ Φ (.rcv ρ (ph 0) 1)))

/-- The cells of one ring. -/
def laneCells (ρ : Bool) : Finset CI :=
  {.cr ρ, .snd ρ 0, .rcv ρ (ph 1) 0, .rcv ρ (ph 0) 0, .snd ρ 1, .rcv ρ (ph 1) 1, .rcv ρ (ph 0) 1}

omit [FloatOps F] in
theorem laneOf_eq (Φ : CI → sProp 𝕄) (ρ : Bool) : bigSep (laneCells ρ) Φ = laneOf Φ ρ := by
  unfold laneCells laneOf
  rw [bigSep_insert (by cases ρ <;> decide), bigSep_insert (by cases ρ <;> decide), bigSep_insert (by cases ρ <;> decide),
    bigSep_insert (by cases ρ <;> decide), bigSep_insert (by cases ρ <;> decide), bigSep_insert (by cases ρ <;> decide), bigSep_singleton]
  show iprop(Φ (.cr ρ) ∗ Φ (.snd ρ 0) ∗ Φ (.rcv ρ (ph 1) 0) ∗ Φ (.rcv ρ (ph 0) 0) ∗ Φ (.snd ρ 1) ∗ Φ (.rcv ρ (ph 1) 1) ∗ Φ (.rcv ρ (ph 0) 1)) = _
  refine BI.equiv_iff.mp ⟨?_, ?_⟩
  · show (_ : sProp 𝕄) ⊢ _
    iintro ⟨H1, H2, H3, H4, H5, H6, H7⟩
    isplitl [H1]; · iexact H1
    isplitl [H2 H3 H4]
    · isplitl [H2]; · iexact H2
      isplitl [H3]; · iexact H3
      iexact H4
    isplitl [H5]; · iexact H5
    isplitl [H6]; · iexact H6
    iexact H7
  · show (_ : sProp 𝕄) ⊢ _
    iintro ⟨H1, ⟨H2, H3, H4⟩, H5, H6, H7⟩
    isplitl [H1]; · iexact H1
    isplitl [H2]; · iexact H2
    isplitl [H3]; · iexact H3
    isplitl [H4]; · iexact H4
    isplitl [H5]; · iexact H5
    isplitl [H6]; · iexact H6
    iexact H7
omit [FloatOps F] in
/-- A device's cells: the barrier's, and each ring's. -/
theorem cis_lanes (Φ : CI → sProp 𝕄) : bigSep Finset.univ Φ = iprop(Φ .bar ∗ laneOf Φ false ∗ laneOf Φ true) := by
  rw [show (Finset.univ : Finset CI) = insert .bar (laneCells false ∪ laneCells true) by decide, bigSep_insert (by decide),
    bigSep_union (by decide), laneOf_eq, laneOf_eq]
  rfl

/-! ## Into the body -/

omit [FloatOps F] in
theorem credits_start (c : Dev nD) (ρ : Bool) :
    iprop(atPos ER (cell c (.cr ρ)) 0 ∅ 0 ∗ bigSep (Finset.Ico 1 14) (fun k => cred (tallyAt (cell c (.cr ρ)) (k + 2) 1)))
      ⊢ crSt (F := F) c ρ 0 := by
  rw [show crSt (F := F) c ρ 0 = _ from if_pos (by omega)]
  iintro ⟨H1, H2⟩
  iexists ∅
  isplitr; · ipureintro; exact ⟨Finset.empty_subset _, Nat.zero_le _⟩
  isplitl [H1]; · iexact H1
  isplitr
  · rw [bigSep_empty]; iempintro
  iexact H2

omit [FloatOps F] in
/-- A ring's part of the state at the entry, put together. -/
theorem entry_intro (c : Dev nD) (ρ : Bool) :
    iprop(lane c ρ ∗ paid c ρ ∗ laneOf (fun i => atPos ER (cell c i) 0 ∅ 0) ρ ∗ (sendSlot c ρ 0 ∗ sendSlot c ρ 1) ∗ slots c ρ) ⊢ entry (F := F) c ρ := by
  unfold lane paid laneOf entry first
  iintro ⟨⟨⟨Ha0, Ha1⟩, Hr, Hc, Hb⟩, ⟨⟨Hp0, Hp1⟩, Hcr⟩, ⟨H1, ⟨H2, H3, H4⟩, ⟨H5, H6, H7⟩⟩, ⟨Hs0, Hs1⟩, Hl⟩
  isplitl [Ha0 Ha1 Hp0 Hp1 H2 H3 H4 H5 H6 H7 Hs0 Hs1]
  · isplitl [Ha0 Hp0 H2 H3 H4 Hs0]
    · isplitl [Hs0]; · iexact Hs0
      isplitl [H2]; · iexact H2
      isplitl [H3]; · iexact H3
      isplitl [H4]; · iexact H4
      isplitl [Ha0]; · iexact Ha0
      iexact Hp0
    · isplitl [Hs1]; · iexact Hs1
      isplitl [H5]; · iexact H5
      isplitl [H6]; · iexact H6
      isplitl [H7]; · iexact H7
      isplitl [Ha1]; · iexact Ha1
      iexact Hp1
  isplitl [Hr]; · iexact Hr
  isplitl [Hl]; · iexact Hl
  isplitl [Hc]; · iexact Hc
  isplitl [Hcr H1]
  · iapply (credits_start c ρ)
    isplitl [H1]; · iexact H1
    iexact Hcr
  iexact Hb

omit [FloatOps F] in
/-- The scratch buffers as slots. -/
theorem scratch_split (c : Dev nD) :
    (Pipeline.scopedRest (Ix := ℕ) (Name := ℕ) (U := UU) (Lvl := ℕ) (Val := Elt F) (τ := τ) cfg0.spec c : sProp 𝕄)
      = iprop((sendSlot c false 0 ∗ sendSlot c false 1) ∗ (sendSlot c true 0 ∗ sendSlot c true 1) ∗ slots c false ∗ slots c true) :=
  (scopedRest0_eq c).trans (by rw [← send_split, ← send_split, ← recv_split, ← recv_split])

/-- Everything a device starts from but the buffers. -/
def start (X : Dev nD → (cc0_stg0_0 : Ref sig .tc).ty.Contents (Elt F)) (Y : Dev nD → (cc0_stg1_0 : Ref sig .tc).ty.Contents (Elt F))
    (c : Dev nD) : sProp 𝕄 :=
  iprop((∃ κ ν, ctx X Y κ ν) ∗ share c ∗ (paid c false ∗ paid c true) ∗ cred (tallyAt (cell c .bar) 1 2))

variable (X : Dev nD → (cc0_stg0_0 : Ref sig .tc).ty.Contents (Elt F))
variable (Y : Dev nD → (cc0_stg1_0 : Ref sig .tc).ty.Contents (Elt F))

/-- What all know, with the levels. -/
theorem start_intro (c : Dev nD) :
    iprop(levAts L lv ∗ Pipeline.launchCred O₀ c ∗ G' X Y c) ⊢ start X Y c := by
  unfold G' start known
  iintro ⟨#Hlev, Hcr, ⟨⟨%κ, #HI⟩, %ν, ⟨#HS, #HR⟩, Hsh⟩⟩
  ihave Hc := (creds (F := F) c) $$ Hcr
  icases Hc with ⟨Hp, Hb⟩
  isplitr
  · iexists κ; iexists ν
    unfold ctx
    isplitr; · iexact HI
    isplitr; · iexact HS
    isplitr; · iexact HR
    iexact Hlev
  isplitl [Hsh]; · iexact Hsh
  isplitl [Hp]; · iexact Hp
  iexact Hb

/-- With the scratch buffers, the state the body starts from. -/
theorem begin_intro (c : Dev nD) :
    iprop(start X Y c ∗ Pipeline.scopedRest (Ix := ℕ) (Name := ℕ) (U := UU) (Lvl := ℕ) (Val := Elt F) (τ := τ) cfg0.spec c)
      ⊢ iprop((∃ κ ν, ctx X Y κ ν) ∗ begin_ c) := by
  rw [scratch_split]
  unfold start share spots begin_
  rw [cis_lanes]
  iintro ⟨⟨Hctx, ⟨⟨Hb, Hs1, Hs2⟩, Hl1, Hl2⟩, ⟨Hp1, Hp2⟩, Hc⟩, Hq1, Hq2, Hr1, Hr2⟩
  isplitl [Hctx]; · iexact Hctx
  isplitr [Hb Hc]
  · isplitl [Hs1 Hl1 Hp1 Hq1 Hr1]
    · iapply (entry_intro c false)
      isplitl [Hl1]; · iexact Hl1
      isplitl [Hp1]; · iexact Hp1
      isplitl [Hs1]; · iexact Hs1
      isplitl [Hq1]; · iexact Hq1
      iexact Hr1
    · iapply (entry_intro c true)
      isplitl [Hl2]; · iexact Hl2
      isplitl [Hp2]; · iexact Hp2
      isplitl [Hs2]; · iexact Hs2
      isplitl [Hq2]; · iexact Hq2
      iexact Hr2
  isplitl [Hc]; · iexact Hc
  iexact Hb

/-! ## Out of the body -/

omit [FloatOps F] in
theorem ring_exit (c : Dev nD) (ρ : Bool) :
    ringDone (F := F) c ρ ⊢ iprop(laneOf (fun i => semVal (cell c i) 0) ρ ∗ (sendSlot c ρ 0 ∗ sendSlot c ρ 1) ∗ slots c ρ) := by
  unfold ringDone halfDone laneOf slots
  iintro ⟨⟨⟨Hs0, Hr0, H2, H3, H4⟩, ⟨Hs1, Hr1, H5, H6, H7⟩⟩, Hr, H1⟩
  isplitl [H1 H2 H3 H4 H5 H6 H7]
  · isplitl [H1]; · iexact H1
    isplitl [H2 H3 H4]
    · isplitl [H2]; · iexact H2
      isplitl [H3]; · iexact H3
      iexact H4
    isplitl [H5]; · iexact H5
    isplitl [H6]; · iexact H6
    iexact H7
  isplitl [Hs0 Hs1]
  · isplitl [Hs0]; · iexact Hs0
    iexact Hs1
  isplitl [Hr]; · iexact Hr
  isplitl [Hr0]; · iexact Hr0
  iexact Hr1

omit [FloatOps F] in
/-- A device gives back its counters at zero, and its scratch buffers. -/
theorem finish_exit (c : Dev nD) :
    finish (F := F) c ⊢ iprop(unscopedSems0 c ∗ Pipeline.ownSems0 osem c
      ∗ Pipeline.scopedRest (Ix := ℕ) (Name := ℕ) (U := UU) (Lvl := ℕ) (Val := Elt F) (τ := τ) cfg0.spec c) := by
  rw [scratch_split]
  unfold finish
  iintro ⟨⟨H1, H2⟩, Hb⟩
  ihave H1 := (ring_exit c false) $$ H1
  ihave H2 := (ring_exit c true) $$ H2
  icases H1 with ⟨H1, Hs1, Hr1⟩
  icases H2 with ⟨H2, Hs2, Hr2⟩
  ihave Hv := (show iprop(semVal (cell c .bar) 0 ∗ laneOf (fun i => semVal (cell c i) 0) false ∗ laneOf (fun i => semVal (cell c i) 0) true)
      ⊢ (iprop(unscopedSems0 c ∗ Pipeline.ownSems0 osem c) : sProp 𝕄) from Entails.of_eq (by
        rw [unscopedSems0_eq]; exact (cis_lanes fun i => (semVal (cell c i) 0 : sProp 𝕄)).symm.trans (cis_split _))) $$ [H1 H2 Hb]
  · isplitl [Hb]; · iexact Hb
    isplitl [H1]; · iexact H1
    iexact H2
  icases Hv with ⟨Hu, Ho⟩
  isplitl [Hu]; · iexact Hu
  isplitl [Ho]; · iexact Ho
  isplitl [Hs1]; · iexact Hs1
  isplitl [Hs2]; · iexact Hs2
  isplitl [Hr1]; · iexact Hr1
  iexact Hr2

end Cert.RingProof

end
-- ==== Proof.Launch.lean ====
/-
# The launch

The run of the whole mesh: every device's result is `outAt` of the operands, its operands are as before, and every
counter is zero.
-/
module

public import proofs.«01_k».proof.Proof.Entry
public import proofs.«01_k».proof.Proof.Out
public import Idealize.ShloMosaic.Lib.Pipeline.CollectiveSegs
public import proofs.«01_k».proof.Proof.Gen.KernelIdeal.Points

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (g : Dev nD → PrngReg)

/-- The state at the launch: memory `m`, every counter at zero, generators `g`. -/
abbrev s₀ : MemSt nD τ sig (Elt F) := ⟨m, fun _ => 0, g⟩

/-- A device's `x` block, as staged. -/
def xstg (c : Dev nD) : (cc0_stg0_0 : Ref sig .tc).ty.Contents (Elt F) :=
  (win0_0.blk (0 : Fin 1)).view.read (Elt F) ((s₀ m g).mem ((c : Thread nD τ).loc main_arg0))
/-- A device's `w` block, as staged. -/
def wstg (c : Dev nD) : (cc0_stg1_0 : Ref sig .tc).ty.Contents (Elt F) :=
  (win0_1.blk (0 : Fin 1)).view.read (Elt F) ((s₀ m g).mem ((c : Thread nD τ).loc main_arg1))

/-- A device's result, as staged. -/
def res (c : Dev nD) : OutC F := outAt (xstg m g) (wstg m g) c

def Φ₀ (c : Dev nD) : sProp 𝕄 := iprop((∃ κ ν, ctx (xstg m g) (wstg m g) κ ν) ∗ begin_ c)

/-- What the pipeline keeps of each window and of the counters. -/
def dats (_ : Fin 1) (c : Dev nD) : Dat τ (Elt F) ℕ ℕ UU ℕ cfg0 c where
  A w := (s₀ m g).mem ((cfg0.win w).arr.view.loc (c : Thread nD τ))
  after w _ := match w with
    | ⟨0, _⟩ => xstg m g c
    | ⟨1, _⟩ => wstg m g c
    | ⟨2, _⟩ => res m g c
  Φ t := match t with
    | ⟨0, _⟩ => Φ₀ m g c
    | ⟨_ + 1, _⟩ => finish c
  q _ := fullShare
  owed t := match t with
    | ⟨0, _⟩ => O₀ c
    | ⟨_ + 1, _⟩ => 0

omit [FloatOps F] in
theorem three_windows (Φ : Fin cfg0.W → sProp 𝕄) : bigSep Finset.univ Φ = iprop(Φ (0 : Fin 3) ∗ Φ (1 : Fin 3) ∗ Φ (2 : Fin 3)) := bigSep_W0 Φ

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

/-! ## The body's obligation -/

theorem phi_at0 (c : Dev nD) : (dats m g 0 c).Φ t0_0.castSucc = Φ₀ m g c := rfl
theorem phi_at1 (c : Dev nD) : (dats m g 0 c).Φ t0_0.succ = finish c := rfl
theorem after_at0 (c : Dev nD) : (dats m g 0 c).after (0 : Fin 3) t0_0 = xstg m g c := rfl
theorem after_at1 (c : Dev nD) : (dats m g 0 c).after (1 : Fin 3) t0_0 = wstg m g c := rfl
theorem after_at2 (c : Dev nD) : (dats m g 0 c).after (2 : Fin 3) t0_0 = res m g c := rfl

def bodyPre (c : Dev nD) : sProp 𝕄 :=
  iprop(Φ₀ m g c ∗ (dats m g 0 c).owesAt 0 t0_0.castSucc
    ∗ (∃ d, stg c cc0_stg0_0 ((dats m g 0 c).before (0 : Fin 3) t0_0 d))
    ∗ (∃ d, stg c cc0_stg1_0 ((dats m g 0 c).before (1 : Fin 3) t0_0 d))
    ∗ (∃ d, stg c cc0_stg2_0 ((dats m g 0 c).before (2 : Fin 3) t0_0 d)))

def bodyPost (c : Dev nD) : sProp 𝕄 :=
  iprop(finish c ∗ (dats m g 0 c).owesAt 0 t0_0.succ
    ∗ stg c cc0_stg0_0 (xstg m g c) ∗ stg c cc0_stg1_0 (wstg m g c) ∗ stg c cc0_stg2_0 (res m g c))

/-- A device's own number, read at the head of a program. -/
theorem wpc_dev {α : Type} (c : Dev nD) (k : Dev nD → Prog (TpuEff nD τ sig (Elt F) Λ₀ .tc) α) (Q : α → sProp 𝕄) :
    wpc c (k c) Q ⊢ wpc c (.op .deviceId k) Q := Entails.of_eq (wp_deviceId 𝒱₀ (c : Thread nD τ) none Set.univ).symm

/-- The body on the staging buffers. -/
abbrev bodyS : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8
    cc0_scratch9

theorem bodyS_eq : bodyS (F := F) = Prog.op .deviceId (fun c => bodyP xA wA oA c) := body_eq _ _ _ _ _ _ _ _ _ _

theorem body_at : defs₀ (F := F) Proc.tc 0 (t0_0, cfg0.slots t0_0) = bodyS := by
  unfold defs₀ Defs.onTc
  rfl

/-- The body from the staged operands to the staged result. -/
theorem wp_staged (c : Dev nD) : bodyPre m g c ⊢ wpc c (bodyP xA wA oA c) (fun _ => bodyPost m g c) := by
  unfold bodyPre Φ₀ stg
  iintro ⟨⟨⟨%κ, %ν, #Hctx⟩, Hb⟩, Ho, ⟨%d0, %g0, %hg0, Hx⟩, ⟨%d1, %g1, %hg1, Hw⟩, ⟨%d2, %g2, %hg2, Hout⟩⟩
  have hx : g0 = xstg m g c := by rw [hg0]; unfold Dat.before; rw [if_pos (fetch0_0 t0_0)]; rfl
  have hw : g1 = wstg m g c := by rw [hg1]; unfold Dat.before; rw [if_pos (fetch0_1 t0_0)]; rfl
  subst hx
  subst hw
  unfold Dat.owesAt Pipeline.owesWithin
  icases Ho with ⟨%W, %hW, HO⟩
  rw [show (dats m g 0 c).owed t0_0.castSucc = O₀ c from rfl]
  iapply (wp_bodyP (xstg m g) (wstg m g) κ ν c g2)
  isplitr; · iexact Hctx
  isplitl [Hb]; · iexact Hb
  isplitl [Hx Hw]
  · unfold stgs
    isplitl [Hx]; · iexact Hx
    iexact Hw
  isplitl [Hout]; · unfold outPts; iexact Hout
  isplitl [HO]; · iexists W; iexact HO
  rw [outOf_eq]
  unfold bodyPost Dat.owesAt Pipeline.owesWithin stgs outPts
  rw [show (dats m g 0 c).owed t0_0.succ = 0 from rfl]
  iintro ⟨Hf, ⟨Hx, Hw⟩, Hout, ⟨%W', HO⟩⟩
  isplitl [Hf]; · iexact Hf
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 16000 in
/-- What the pipeline asks of the body, on device `c`. -/
theorem body_obligation (c : Dev nD) : BodyObligation (dats (F := F) m g 0 c) (defs₀ (F := F)) 𝒱₀ 0 Set.univ := fun t => by
  rw [fin_N0 t]
  rw [three_windows, three_windows]
  simp only [owns_stg]
  rw [body_at, bodyS_eq, phi_at0, phi_at1, after_at0, after_at1, after_at2]
  have h := (wp_staged m g c).trans (wpc_dev c (fun c => bodyP xA wA oA c) (fun _ => bodyPost m g c))
  unfold bodyPre bodyPost at h
  convert h using 2

/-! ## The launch's conditions -/

theorem share_eq (c : Dev nD) (w : Fin cfg0.W) : (dats m g 0 c).share w = fullShare := by unfold Dat.share; split <;> rfl

theorem start_launch (c : Dev nD) :
    iprop(Pipeline.unscopedRestP Pipeline.Prefetch.none cfg0.spec c (fun b => m ((c : Thread nD τ).loc b)) ∗ levAts L lv
        ∗ Pipeline.launchCred O₀ c ∗ prngReg c (g c) ∗ G' (xstg m g) (wstg m g) c)
      ⊢ |={Set.univ}=> iprop(start (xstg m g) (wstg m g) c ∗ emp) := by
  iintro ⟨-, Hlev, Hcr, -, HG⟩
  ihave H := (start_intro (xstg m g) (wstg m g) c) $$ [Hlev Hcr HG]
  · isplitl [Hlev]; · iexact Hlev
    isplitl [Hcr]; · iexact Hcr
    iexact HG
  imodintro
  isplitl [H]; · iexact H
  iempintro

theorem phi0_intro (c : Dev nD) :
    iprop(start (xstg m g) (wstg m g) c ∗ Pipeline.prefHeld Pipeline.Prefetch.none c (fun _ => fullShare.right) (fun k => k.elim0)
        ∗ Pipeline.scopedRest cfg0.spec c)
      ⊢ (dats m g 0 c).Φ 0 := by
  rw [show (dats m g 0 c).Φ 0 = Φ₀ m g c from rfl]
  unfold Φ₀
  iintro ⟨Hs, -, Hr⟩
  iapply (begin_intro (xstg m g) (wstg m g) c)
  isplitl [Hs]; · iexact Hs
  iexact Hr

theorem phi1_exit (c : Dev nD) :
    (dats m g 0 c).Φ (Fin.last cfg0.N) ⊢ iprop(unscopedSems0 c ∗ Pipeline.ownSems0 osem c ∗ Pipeline.scopedRest cfg0.spec c) := by
  rw [show (dats m g 0 c).Φ (Fin.last cfg0.N) = finish c from rfl]
  exact finish_exit c

theorem waits (c : Dev nD) : (levAts L lv : sProp 𝕄) ⊢ Pipeline.cellsWaits cfgs (dats m g) 0 0 c :=
  Pipeline.cellsWaits_intro cfgs (dats m g) 0 0 c fun w s t => by
    rcases t with ⟨_ | _, ht⟩
    · exact mayWait c _ (Nat.le_refl 0) (by omega) (above_O₀ c)
    · exact mayWait c _ (Nat.le_refl 0) (by omega) (show Above 0 (0 : CellTallies nD τ sig ℕ) from Above.zero 0)

/-! ## The run -/

/-- What a window's array holds at the end. -/
def finalA (c : Dev nD) (w : Fin cfg0.W) : Buf (Elt F) ((cfg0.win w).arr.view.loc (c : Thread nD τ)) := (dats m g 0 c).arrAt w cfg0.N

def QC : PUnit × MemSt nD τ sig (Elt F) → Prop := fun r =>
  ∀ c : Dev nD, ∀ w : Fin cfg0.W, r.2.mem ((cfg0.win w).arr.view.loc (c : Thread nD τ)) = finalA m g c w

set_option maxRecDepth 16000 in
/-- For any float values, from any memory with zero counters, every weakly fair execution on the mesh of sixteen devices
    ends, each array as computed and every counter at zero. -/
theorem run_main : θ_run defs (onTc (τ := τ) (main (F := F))) (s₀ m g) (fun r => QC m g r ∧ r.2.sem = fun _ => 0) :=
  Pipeline.θ_run_region_owing_glob_pf (fun p => (cfgs p).toPCfg) (fun p => (cfgs p).toPCfg_adm) (dats m g) 0 cellOf_inj (0 : Fin 1)
    winFacts0.to₀ ownSemFacts (Pipeline.PreFacts.none _) EP defs₀ 𝒱₀ m g main
    (hmain := fun _ => rfl)
    (hbody := fun c => (body_obligation m g c).loose) (hne := fun w => by fin_cases w <;> exact Nat.succ_pos _) (harr := arr_whole0) (hstage := stage_whole0) (hshare := share_eq m g)
    (hdistinct := winFacts0.arr_inj)
    (O₀ := O₀) (howed₀ := fun _ => rfl) (howedN := fun _ => rfl)
    (L := L) (lv := lv) (hL := L_of_ne) (hwaits := waits m g)
    (G := G (xstg m g) (wstg m g)) (G' := G' (xstg m g) (wstg m g)) (u₀ := u₀)
    (hu₀ := fund_ring (xstg m g) (wstg m g))
    (hglob := glob (xstg m g) (wstg m g))
    (hA := fun _ _ => rfl) (hpf := fun _ k => k.elim0)
    (X := start (xstg m g) (wstg m g)) (Y := fun c => unscopedSems0 c) (Z := fun _ => iprop(emp))
    (hX := start_launch m g) (hin := phi0_intro m g) (hout := phi1_exit m g)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays are as they were. -/
theorem finalA_x (c : Dev nD) : finalA m g c (0 : Fin 3) = m ((c : Thread nD τ).loc main_arg0) :=
  (dats (F := F) m g 0 c).arrAt_in (0 : Fin 3) rfl _
theorem finalA_w (c : Dev nD) : finalA m g c (1 : Fin 3) = m ((c : Thread nD τ).loc main_arg1) :=
  (dats (F := F) m g 0 c).arrAt_in (1 : Fin 3) rfl _

/-- The result array's one block is the whole array; it holds what the body left. -/
theorem finalA_o (c : Dev nD) : (win0_2.blk (0 : Fin 1)).view.read (Elt F) (finalA m g c (2 : Fin 3)) = res m g c := by
  unfold finalA
  rw [show cfg0.N = ((0 : Fin 1) : Fin cfg0.N).val + 1 from rfl, (dats m g 0 c).arrAt_succ (2 : Fin 3) (0 : Fin 1)]
  rw [flush0_2 (0 : Fin 1), if_pos rfl]
  exact View.read_write_univ _ _

end Cert.RingProof

end
-- ==== Proof.Value.lean ====
/-
# The value

Over the extended reals, where addition is associative and commutative: the sum a ring carries to a device is the whole
product's block, and the activation of it is the reference's. So each device's result is its block of the reference's.
-/
module

public import proofs.«01_k».proof.Proof.Launch
public import proofs.«01_k».proof.Defs
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.RingProof

open Cert.KernelIdeal Cert.KernelIdeal.Gen
open Idealize.ShloMosaic
open Idealize.ShloMosaic.TcCoe
open Idealize.ShloMosaic.ValueIdx
open scoped BigOperators

/-! ## Which rows a part is of -/

/-- The device whose rows of the result a device adds to in ring `ρ`'s step `s`. -/
def chunk (ρ : Bool) (d : Dev nD) (s : ℕ) : Dev nD :=
  match ρ with
  | false => ⟨(d.val + (15 - s)) % 16, Nat.mod_lt _ (by decide)⟩
  | true => ⟨(d.val + s + 1) % 16, Nat.mod_lt _ (by decide)⟩

/-- The sum keeps to its rows as it moves on. -/
theorem chunk_src (ρ : Bool) (e : Dev nD) (s : ℕ) (h : s + 1 < 16) : chunk ρ (src ρ e) s = chunk ρ e (s + 1) := by
  cases ρ <;> refine Fin.ext ?_
  · show ((e.val + 15) % 16 + (15 - s)) % 16 = (e.val + (15 - (s + 1))) % 16
    omega
  · show ((e.val + 1) % 16 + s + 1) % 16 = (e.val + (s + 1) + 1) % 16
    omega

/-- The last step is at the device whose rows they are. -/
theorem chunk_last (ρ : Bool) (c : Dev nD) : chunk ρ c 15 = c := by
  have hc : c.val < 16 := c.isLt
  cases ρ <;> refine Fin.ext ?_
  · show (c.val + (15 - 15)) % 16 = c.val
    omega
  · show (c.val + 15 + 1) % 16 = c.val
    omega

/-- The rows read in a step, in closed form. -/
theorem offX_chunk (ρ : Bool) (d : Dev nD) (s : Fin 16) : offX ρ d s = ![256 * (chunk ρ d s.val).val, 0] := by
  cases ρ
  · refine (k0_off1_eq d s.rev).trans ?_
    have h : d.val + s.rev.val = d.val + (15 - s.val) := by rw [Fin.val_rev]; omega
    rw [h]; rfl
  · exact k0_off2_eq d s

theorem colW_lt (ρ : Bool) (q : Fin 4096) : colW ρ + q.val < 8192 := by
  cases ρ
  · show 0 + q.val < 8192; omega
  · show 4096 + q.val < 8192; omega

/-! ## A part at an index -/

variable (X : Dev nD → (⟨S4096x256, .f32⟩ : BufTy).Contents (Elt Ideal)) (Y : Dev nD → (⟨S256x8192, .f32⟩ : BufTy).Contents (Elt Ideal))

/-- What device `d` adds to the element of row `r` of device `b`'s rows and column `q`. -/
def term (b d : Dev nD) (r : Fin 256) (q : Fin 8192) : EReal :=
  ∑ k : Fin 256, X d (ix2 ⟨256 * b.val + r.val, by have : b.val < 16 := b.isLt; omega⟩ k) * Y d (ix2 k q)

/-- A plain product from zero, at an index. -/
theorem mm_apply (x : Vec Ideal S256x256 .f32) (w : Vec Ideal S256x4096 .f32) (r : Fin 256) (q : Fin 4096) :
    mm x w (ix2 r q) = ∑ k : Fin 256, x (ix2 r k) * w (ix2 k q) := by
  unfold mm
  rw [shapeCast_self, shapeCast_self]
  refine (Ideal.matmul_plain_apply none x w (constant S256x4096 .f32 0x00000000#32) r q).trans ?_
  rw [show constant (F := Ideal) S256x4096 .f32 0x00000000#32 (ix2 r q) = (0 : EReal) from Ideal.ofBits_zero_f32, zero_add]

/-- A device's part, at an index. -/
theorem prt_apply (ρ : Bool) (d : Dev nD) (s : ℕ) (hs : s < 16) (r : Fin 256) (q : Fin 4096) :
    prt X Y ρ d s (ix2 r q) = term X Y (chunk ρ d s) d r ⟨colW ρ + q.val, colW_lt ρ q⟩ := by
  unfold prt
  rw [mm_apply]
  refine Finset.sum_congr rfl fun k _ => congrArg₂ (· * ·) ?_ ?_
  · refine congrArg (X d) (funext fun a => Fin.ext ?_)
    have ho := congrFun (offX_chunk ρ d (Fin.ofNat 16 s)) a
    have hv : (Fin.ofNat 16 s).val = s := Nat.mod_eq_of_lt hs
    rw [hv] at ho
    match a with
    | ⟨0, _⟩ =>
      show offX ρ d (Fin.ofNat 16 s) ⟨0, _⟩ + 1 * r.val = 256 * (chunk ρ d s).val + r.val
      rw [ho, one_mul]; rfl
    | ⟨1, _⟩ =>
      show offX ρ d (Fin.ofNat 16 s) ⟨1, _⟩ + 1 * k.val = k.val
      rw [ho, one_mul]; exact Nat.zero_add _
  · refine congrArg (Y d) (funext fun a => Fin.ext ?_)
    match a with
    | ⟨0, _⟩ =>
      show 0 + 1 * k.val = k.val
      omega
    | ⟨1, _⟩ =>
      show colW ρ + 1 * q.val = colW ρ + q.val
      rw [one_mul]

theorem colO_lt (ρ : Bool) (j : Fin 2) (q : Fin 2048) : colO ρ j + q.val < 8192 := by
  cases ρ
  · show 2048 * j.val + q.val < 8192; omega
  · show 4096 + 2048 * j.val + q.val < 8192; omega

/-- Half of a part, at an index. -/
theorem sub_prt_apply (ρ : Bool) (j : Fin 2) (d : Dev nD) (s : ℕ) (hs : s < 16) (r : Fin 256) (q : Fin 2048) :
    sub j (prt X Y ρ d s) (ix2 r q) = term X Y (chunk ρ d s) d r ⟨colO ρ j + q.val, colO_lt ρ j q⟩ := by
  have hq : 2048 * j.val + q.val < 4096 := by omega
  refine (extractStridedSlice_apply _ _ _ _ (ix2 r ⟨2048 * j.val + q.val, hq⟩) fun a => ?_).trans ?_
  · match a with
    | ⟨0, _⟩ => exact (Nat.zero_add _).symm
    | ⟨1, _⟩ => rfl
  · rw [prt_apply X Y ρ d s hs]
    refine congrArg (term X Y (chunk ρ d s) d r) (Fin.ext ?_)
    cases ρ
    · exact Nat.zero_add _
    · exact (Nat.add_assoc _ _ _).symm

/-- The running sum, at an index: the parts of the devices it has passed. -/
theorem val_apply (ρ : Bool) (j : Fin 2) (r : Fin 256) (q : Fin 2048) : ∀ (s : ℕ) (_ : s < 16) (e : Dev nD),
    val X Y ρ j s e (ix2 r q)
      = ∑ i ∈ Finset.range (s + 1), term X Y (chunk ρ e s) ((src ρ)^[i] e) r ⟨colO ρ j + q.val, colO_lt ρ j q⟩
  | 0, hs, e => by
    rw [Finset.sum_range_one]
    exact sub_prt_apply X Y ρ j e 0 hs r q
  | s + 1, hs, e => by
    rw [Finset.sum_range_succ']
    show sub j (prt X Y ρ e (s + 1)) (ix2 r q) + val X Y ρ j s (src ρ e) (ix2 r q) = _
    rw [sub_prt_apply X Y ρ j e (s + 1) hs, val_apply ρ j r q s (by omega) (src ρ e), chunk_src ρ e s hs, add_comm]
    rfl

/-- Sixteen steps back along a ring meet every device once. -/
theorem src_bij (ρ : Bool) (c : Dev nD) : Function.Bijective fun i : Fin 16 => (src ρ)^[i.val] c := by
  refine (Finite.injective_iff_bijective (α := Fin 16)).mp ?_
  revert c ρ
  decide +kernel

/-- The finished sum is over all the devices. -/
theorem val_last (ρ : Bool) (j : Fin 2) (c : Dev nD) (r : Fin 256) (q : Fin 2048) :
    val X Y ρ j 15 c (ix2 r q) = ∑ d : Fin 16, term X Y c d r ⟨colO ρ j + q.val, colO_lt ρ j q⟩ := by
  rw [val_apply X Y ρ j r q 15 (by decide) c, chunk_last, Finset.sum_range]
  exact (src_bij ρ c).sum_comp fun d => term X Y c d r ⟨colO ρ j + q.val, colO_lt ρ j q⟩

/-! ## The parts of a product add up to it -/

/-- The devices' parts of a product whose inner dimension is cut in sixteen make up the product. -/
theorem term_sum (A : (⟨2, ![4096, 4096]⟩ : Shape).Idx → EReal) (B : (⟨2, ![4096, 8192]⟩ : Shape).Idx → EReal)
    (hX : ∀ c : Dev nD, X c = Layout.block ⟨2, ![4096, 256]⟩ ⟨2, ![4096, 4096]⟩ 1 16 c A)
    (hY : ∀ c : Dev nD, Y c = Layout.block ⟨2, ![256, 8192]⟩ ⟨2, ![4096, 8192]⟩ 0 16 c B) (c : Dev nD) (r : Fin 256) (q : Fin 8192)
    (h : 256 * c.val + r.val < 4096) :
    ∑ d : Fin 16, term X Y c d r q = ∑ k : Fin 4096, A (ix2 ⟨256 * c.val + r.val, h⟩ k) * B (ix2 k q) := by
  rw [← Equiv.sum_comp (finProdFinEquiv (m := 16) (n := 256)), Fintype.sum_prod_type]
  refine Finset.sum_congr rfl fun d _ => Finset.sum_congr rfl fun k _ => ?_
  rw [hX d, hY d]
  refine congrArg₂ (· * ·) (congrArg A (funext fun a => Fin.ext ?_)) (congrArg B (funext fun a => Fin.ext ?_))
  · match a with
    | ⟨0, _⟩ => rfl
    | ⟨1, _⟩ =>
      show d.val * 256 + k.val = k.val + 256 * d.val
      omega
  · match a with
    | ⟨0, _⟩ =>
      show d.val * 256 + k.val = k.val + 256 * d.val
      omega
    | ⟨1, _⟩ => rfl

/-! ## The reference's value -/

/-- The reference's result, of its two operands. -/
def refOut (A : FVec Ideal Cert.ReferenceIdeal.S4096x4096 .f32) (B : FVec Ideal Cert.ReferenceIdeal.S4096x8192 .f32) :
    FVec Ideal Cert.ReferenceIdeal.S4096x8192 .f32 :=
  let D := Host.dotGeneral Cert.ReferenceIdeal.dot_S4096x4096_S4096x8192_S4096x8192_1_0_0_1_n_n none A B
  let k := fun b : BitVec 32 => broadcastInDim Cert.ReferenceIdeal.S4096x8192 ![] Cert.ReferenceIdeal.Facts₀.bcast_S_S4096x8192 (constant (F := Ideal) Cert.ReferenceIdeal.S_ .f32 b)
  mulf (mulf (k 0x3F000000#32) D) (addf (k 0x3F800000#32) (Host.tanh (mulf (k 0x3F4C422A#32)
    (addf D (mulf (k 0x3D372713#32) (mulf (mulf D D) D))))))

/-- The activation of one number. -/
def act1 (y : EReal) : EReal :=
  Ideal.ofBits .f32 0x3F000000#32 * y * (Ideal.ofBits .f32 0x3F800000#32 + Ideal.tanh (Ideal.ofBits .f32 0x3F4C422A#32
    * (y + Ideal.ofBits .f32 0x3D372713#32 * (y * y * y))))

/-- The kernel's activation, at an index: the products of the cube are taken in another order. -/
theorem act_apply (y : FVec Ideal S256x2048 .f32) (x : S256x2048.Idx) : act y x = act1 (y x) := by
  have h : act1 (y x) = Ideal.ofBits .f32 0x3F000000#32 * y x * (Ideal.ofBits .f32 0x3F800000#32 + Ideal.tanh (Ideal.ofBits .f32 0x3F4C422A#32
      * (y x + Ideal.ofBits .f32 0x3D372713#32 * y x * y x * y x))) := by
    unfold act1; simp only [mul_assoc]
  exact Eq.trans rfl h.symm

/-- The reference's result, at an index. -/
theorem refOut_apply (A : FVec Ideal Cert.ReferenceIdeal.S4096x4096 .f32) (B : FVec Ideal Cert.ReferenceIdeal.S4096x8192 .f32) (i : Fin 4096) (l : Fin 8192) :
    refOut A B (ix2 i l) = act1 (∑ k : Fin 4096, A (ix2 i k) * B (ix2 k l)) := by
  rw [← StackMember.dotGeneral_plain_apply none A B i l]
  rfl

/-! ## The result's block -/

variable (m : (ℓ : Loc nD τ sig) → Buf (Elt Ideal) ℓ) (g : Dev nD → PrngReg)

/-- Reading an array's one block of the first operand gives the array. -/
theorem xstg_eq (c : Dev nD) : xstg m g c = m ((c : Thread nD τ).loc main_arg0) :=
  Memref.read_access_unit_zero (Elt Ideal) main_arg0 (funext fun a => by fin_cases a <;> decide) (fun a => by fin_cases a <;> decide) _
/-- Reading an array's one block of the second operand gives the array. -/
theorem wstg_eq (c : Dev nD) : wstg m g c = m ((c : Thread nD τ).loc main_arg1) :=
  Memref.read_access_unit_zero (Elt Ideal) main_arg1 (funext fun a => by fin_cases a <;> decide) (fun a => by fin_cases a <;> decide) _
/-- The result array holds what the body left. -/
theorem finalA_res (c : Dev nD) : finalA m g c (2 : Fin 3) = res m g c :=
  (Memref.read_access_unit_zero (Elt Ideal) main_v1 (funext fun a => by fin_cases a <;> decide) (fun a => by fin_cases a <;> decide) _).symm.trans
    (finalA_o m g c)

/-- **Each device's result is its block of the reference's**, if its operands are its blocks of the reference's. -/
theorem res_block (A : FVec Ideal Cert.ReferenceIdeal.S4096x4096 .f32) (B : FVec Ideal Cert.ReferenceIdeal.S4096x8192 .f32)
    (hx : ∀ c : Dev nD, m ((c : Thread nD τ).loc main_arg0) = Layout.block ⟨2, ![4096, 256]⟩ ⟨2, ![4096, 4096]⟩ 1 16 c A)
    (hw : ∀ c : Dev nD, m ((c : Thread nD τ).loc main_arg1) = Layout.block ⟨2, ![256, 8192]⟩ ⟨2, ![4096, 8192]⟩ 0 16 c B) (c : Dev nD) :
    res m g c = Layout.block ⟨2, ![256, 8192]⟩ ⟨2, ![4096, 8192]⟩ 0 16 c (refOut A B) := by
  funext i
  obtain ⟨ρ, j, x, rfl⟩ := cover_O i
  have hc : c.val < 16 := c.isLt
  obtain ⟨r, q, rfl⟩ : ∃ (r : Fin 256) (q : Fin 2048), x = ix2 r q := ⟨x 0, x 1, eq_ix2 x⟩
  have hi : 256 * c.val + r.val < 4096 := by omega
  unfold res
  rw [outAt, outOf_in, act_apply, val_last,
    term_sum (xstg m g) (wstg m g) A B (fun d => (xstg_eq m g d).trans (hx d)) (fun d => (wstg_eq m g d).trans (hw d)) c r _ hi,
    ← refOut_apply, Layout.block_apply]
  refine congrArg (refOut A B) (funext fun a => Fin.ext ?_)
  match a with
  | ⟨0, _⟩ =>
    show 256 * c.val + r.val = c.val * 256 + (0 + 1 * r.val)
    omega
  | ⟨1, _⟩ =>
    show colO ρ j + q.val = colO ρ j + 1 * q.val
    rw [one_mul]

/-! ## The claims -/

/-- The program runs, leaves its operands as they were, and ends with every counter at zero. -/
theorem frame_any {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run (defs (F := F)) _ _).mono (fun _ h => ⟨fun c => ⟨(h.1 c (0 : Fin 3)).trans (finalA_x m g c),
    (h.1 c (1 : Fin 3)).trans (finalA_w m g c)⟩, h.2⟩) (run_main m g)

/-- The reference runs, leaves its operands as they were, and has no counters. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- **The kernel over the extended reals computes the reference**: every device's result is its block of rows. -/
theorem algebraic : Cert.algebraic_KernelIdeal_ReferenceIdeal := by
  intro m g m' g' _ hin
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run (defs (F := Ideal)) _ _).mono (fun _ h c => ⟨?_, (h.1 c (0 : Fin 3)).trans (finalA_x m g c),
      (h.1 c (1 : Fin 3)).trans (finalA_w m g c)⟩) (run_main m g)
    exact (h.1 c (2 : Fin 3)).trans ((finalA_res m g c).trans
      (res_block m g _ _ (fun d => (hin d).1) (fun d => (hin d).2) c))
  · exact (θ_run Cert.ReferenceIdeal.defs _ _).mono (fun _ h => h 0) (Cert.ReferenceIdeal.Value.run (F := Ideal) m' g')

end Cert.RingProof

end
-- ==== Proof.lean ====
/-
# The certificate of the ring product

The five claims, from the run of the whole mesh (Proof/Launch.lean) and the value (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

variable {F : FTy → Type} [FloatOps F]
set_option maxRecDepth 65536 in
set_option maxHeartbeats 4000000 in
/-- The two programs' bodies are the same text. -/
theorem body_same : @Cert.Kernel.cc0_body F _ _ = @Cert.KernelIdeal.cc0_body F _ _ := by
  funext arg0 h0 arg1 h1 arg2 h2 arg3 h3 arg4 h4 arg5 h5 arg6 h6 arg7 arg8 arg9 arg10 arg11 arg12
  rfl

set_option maxRecDepth 65536 in
/-- So are their tables of bodies. -/
theorem defs₀_same : Cert.Kernel.defs₀ (F := F) = Cert.KernelIdeal.defs₀ (F := F) := by
  unfold Cert.Kernel.defs₀ Cert.KernelIdeal.defs₀
  rw [body_same]
  refine congrArg Defs.onTc (funext fun l => funext fun a => ?_)
  match l, a with
  | 0, (t, s) => rfl
  | ⟨n + 1, h⟩, _ => exact absurd h (Nat.not_lt.2 (Nat.le_add_left _ _))

/-- So are their tables of bodies with the launch. -/
theorem defs_same : Cert.Kernel.defs (F := F) = Cert.KernelIdeal.defs (F := F) := by
  unfold Cert.Kernel.defs Cert.KernelIdeal.defs
  rw [defs₀_same]
  rfl

/-- The kernel's frame. The program is the same text as the one over the extended reals. -/
theorem frame_kernel : Cert.quiescent_Kernel := fun m g _ => by
  rw [defs_same]
  exact Cert.RingProof.frame_any (F := Bits) m g

/-- The frame of the kernel over the extended reals. -/
theorem frame_ideal : Cert.quiescent_KernelIdeal := fun m g _ => Cert.RingProof.frame_any (F := Ideal) m g

/-- All five claims. -/
theorem claim : Cert.Claim := ⟨Cert.Kernel.Gen.facts, Cert.KernelIdeal.Gen.facts, Cert.ReferenceIdeal.Gen.facts,
  frame_kernel, frame_ideal, Cert.RingProof.frame_reference, trivial, Cert.RingProof.algebraic⟩

end Cert.Proof

end
